-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S1 : Shape := ⟨1, ![1]⟩
abbrev S8x512x768 : Shape := ⟨3, ![8, 512, 768]⟩
abbrev S8x512x640 : Shape := ⟨3, ![8, 512, 640]⟩
abbrev S4x512x768 : Shape := ⟨3, ![4, 512, 768]⟩
abbrev S4x512x640 : Shape := ⟨3, ![4, 512, 640]⟩
abbrev S2x512x768 : Shape := ⟨3, ![2, 512, 768]⟩
abbrev S2x512x640 : Shape := ⟨3, ![2, 512, 640]⟩
abbrev S512x768 : Shape := ⟨2, ![512, 768]⟩
abbrev S512x640 : Shape := ⟨2, ![512, 640]⟩
abbrev S9 : Shape := ⟨1, ![9]⟩
abbrev S_ : Shape := ⟨0, ![]⟩
abbrev S512x512 : Shape := ⟨2, ![512, 512]⟩
abbrev S1x512x768 : Shape := ⟨3, ![1, 512, 768]⟩
abbrev S1x512x640 : Shape := ⟨3, ![1, 512, 640]⟩

abbrev nBuf : Space → Nat
  | .hbm => 5
  | .vmem => 15
  | .smem => 2
  | _ => 0

abbrev bufTy : (tb : Table) → Fin (tcTables nBuf tb) → BufTy
  | .hbm, ⟨0, _⟩ => ⟨S4096x512, .fp8e4m3⟩
  | .hbm, ⟨1, _⟩ => ⟨S512x2048, .fp8e5m2⟩
  | .hbm, ⟨2, _⟩ => ⟨S1, .f32⟩
  | .hbm, ⟨3, _⟩ => ⟨S1, .f32⟩
  | .hbm, ⟨4, _⟩ => ⟨S512x2048, .f32⟩
  | .local _ .vmem, ⟨0, _⟩ => ⟨S4096x512, .fp8e4m3⟩
  | .local _ .vmem, ⟨1, _⟩ => ⟨S512x2048, .fp8e5m2⟩
  | .local _ .vmem, ⟨2, _⟩ => ⟨S512x2048, .f32⟩
  | .local _ .vmem, ⟨3, _⟩ => ⟨S8x512x768, .bf16⟩
  | .local _ .vmem, ⟨4, _⟩ => ⟨S8x512x640, .bf16⟩
  | .local _ .vmem, ⟨5, _⟩ => ⟨S8x512x640, .bf16⟩
  | .local _ .vmem, ⟨6, _⟩ => ⟨S4x512x768, .bf16⟩
  | .local _ .vmem, ⟨7, _⟩ => ⟨S4x512x640, .bf16⟩
  | .local _ .vmem, ⟨8, _⟩ => ⟨S4x512x640, .bf16⟩
  | .local _ .vmem, ⟨9, _⟩ => ⟨S2x512x768, .bf16⟩
  | .local _ .vmem, ⟨10, _⟩ => ⟨S2x512x640, .bf16⟩
  | .local _ .vmem, ⟨11, _⟩ => ⟨S2x512x640, .bf16⟩
  | .local _ .vmem, ⟨12, _⟩ => ⟨S512x768, .bf16⟩
  | .local _ .vmem, ⟨13, _⟩ => ⟨S512x640, .bf16⟩
  | .local _ .vmem, ⟨14, _⟩ => ⟨S512x640, .bf16⟩
  | .local _ .smem, ⟨0, _⟩ => ⟨S1, .f32⟩
  | .local _ .smem, ⟨1, _⟩ => ⟨S1, .f32⟩
  | _, _ => ⟨S4096x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) (c1_i32_11 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v16 : BitVec 32 := Scalar.xori v2 c1_i32_11
  let c512_i32 : BitVec 32 := 512#32
  let v17 : BitVec 32 := Scalar.muli v16 c512_i32
  let v18 : Index := Scalar.indexCast v17
  let c0_12 : Index := 0#32
  ![v18.toNat, 0]
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let v64 : BitVec 32 := Scalar.xori v2 c1_i32_30
  let c1_i32_33 : BitVec 32 := 1#32
  let v65 : BitVec 32 := Scalar.muli v64 c1_i32_33
  let v66 : BitVec 32 := Scalar.addi c0_i32_34 v65
  v66.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_65 : BitVec 32 := 3#32
  let v120 : BitVec 32 := Scalar.xori v2 c3_i32_65
  let c1_i32_68 : BitVec 32 := 1#32
  let v121 : BitVec 32 := Scalar.muli v120 c1_i32_68
  let v122 : BitVec 32 := Scalar.addi c0_i32_69 v121
  v122.toNat
def k0_dev6 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_101 : BitVec 32 := 4#32
  let v176 : BitVec 32 := Scalar.xori v2 c4_i32_101
  let c1_i32_104 : BitVec 32 := 1#32
  let v177 : BitVec 32 := Scalar.muli v176 c1_i32_104
  let v178 : BitVec 32 := Scalar.addi c0_i32_105 v177
  v178.toNat
def k0_dev7 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_212 : BitVec 32 := 3#32
  let v345 : BitVec 32 := Scalar.xori v2 c3_i32_212
  let c1_i32_215 : BitVec 32 := 1#32
  let v346 : BitVec 32 := Scalar.muli v345 c1_i32_215
  let v347 : BitVec 32 := Scalar.addi c0_i32_216 v346
  v347.toNat
def k0_dev8 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_242 : BitVec 32 := 4#32
  let v370 : BitVec 32 := Scalar.xori v2 c4_i32_242
  let c1_i32_245 : BitVec 32 := 1#32
  let v371 : BitVec 32 := Scalar.muli v370 c1_i32_245
  let v372 : BitVec 32 := Scalar.addi c0_i32_246 v371
  v372.toNat
def k0_dev9 (d0 : Dev nD) : Nat :=
  let c0_i32_276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_272 : BitVec 32 := 1#32
  let v395 : BitVec 32 := Scalar.xori v2 c1_i32_272
  let c1_i32_275 : BitVec 32 := 1#32
  let v396 : BitVec 32 := Scalar.muli v395 c1_i32_275
  let v397 : BitVec 32 := Scalar.addi c0_i32_276 v396
  v397.toNat
def k0_dev10 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_329 : BitVec 32 := 4#32
  let v449 : BitVec 32 := Scalar.xori v2 c4_i32_329
  let c1_i32_333 : BitVec 32 := 1#32
  let v450 : BitVec 32 := Scalar.muli v449 c1_i32_333
  let v451 : BitVec 32 := Scalar.addi c0_i32_334 v450
  v451.toNat
def k0_dev11 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_359 : BitVec 32 := 1#32
  let v477 : BitVec 32 := Scalar.xori v2 c1_i32_359
  let c1_i32_363 : BitVec 32 := 1#32
  let v478 : BitVec 32 := Scalar.muli v477 c1_i32_363
  let v479 : BitVec 32 := Scalar.addi c0_i32_364 v478
  v479.toNat
def k0_dev12 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_389 : BitVec 32 := 3#32
  let v505 : BitVec 32 := Scalar.xori v2 c3_i32_389
  let c1_i32_393 : BitVec 32 := 1#32
  let v506 : BitVec 32 := Scalar.muli v505 c1_i32_393
  let v507 : BitVec 32 := Scalar.addi c0_i32_394 v506
  v507.toNat
abbrev stage0_0 : Fin 1 → Memref sig .tc .vmem S4096x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Own.lean ====
/-
Parts of a buffer, owned with the contents read through them.

A memref's rectangle may be cut into two disjoint rectangles and put together
again; a load through a rectangle reads what is owned there, a store through
it replaces what is owned.  The second half specialises the cuts to stacks of
eight planes, the shape of the accumulators this kernel keeps.
-/
module

public import Idealize.ShloMosaic.Lib.Pipeline.Launch
public import Idealize.ShloMosaic.Lib.Pipeline.Kit
public import Idealize.ShloMosaic.Lib.Tactic

@[expose] public section

noncomputable section

namespace Cert.Own

open Idealize.ShloMosaic
open Idealize.SL Idealize.SL.RA Idealize.SL.BI
open scoped Idealize.SL.BI
open Idealize.SL.BI.BIBase Idealize.SL.BI.Laws Idealize.SL.ProofMode Idealize.SL.Sem

section General

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable (c : Thread nD τ) {sp : Space} {sh : Shape} {e : EltTy} (m : Memref sig c.2.kind sp sh e) (q : PosShare TreeShare)

/-- Reading a buffer through a rectangle of a memref is reading the memref where the rectangle places the index. -/
theorem read_at (r : Rect sh) (hr : ∀ a, r.stride a = 1) (f : m.view.ty.Contents Val) (x : r.shape.Idx) :
    (m.slice r hr).view.read Val f x = m.view.read Val f (r.emb x) := rfl

/-- A rectangle that two disjoint ones cover is owned in two parts, each at what the whole holds there. -/
theorem split2 (r r₁ r₂ : Rect sh) (hr : ∀ a, r.stride a = 1) (hr₁ : ∀ a, r₁.stride a = 1) (hr₂ : ∀ a, r₂.stride a = 1)
    (hS : r.set = r₁.set ∪ r₂.set) (hd : Disjoint r₁.set r₂.set)
    (X : r.shape.Idx → Val e) (X₁ : r₁.shape.Idx → Val e) (X₂ : r₂.shape.Idx → Val e)
    (h₁ : ∀ x y, r₁.emb x = r.emb y → X₁ x = X y) (h₂ : ∀ x y, r₂.emb x = r.emb y → X₂ x = X y) :
    (owns c (m.slice r hr) q X : sProp 𝕄) ⊢ iprop(owns c (m.slice r₁ hr₁) q X₁ ∗ owns c (m.slice r₂ hr₂) q X₂) := by
  have hset : (m.slice r hr).view.set = (m.slice r₁ hr₁).view.set ∪ (m.slice r₂ hr₂).view.set := by
    simp only [Memref.view_slice, View.set_slice, hS, Finset.map_union]
  have hdis : Disjoint (m.slice r₁ hr₁).view.set (m.slice r₂ hr₂).view.set := by
    simp only [Memref.view_slice, View.set_slice]; exact (Finset.disjoint_map _).mpr hd
  unfold owns
  iintro ⟨%f, %hf, H⟩
  have hread (r' : Rect sh) (hr' : ∀ a, r'.stride a = 1) (X' : r'.shape.Idx → Val e) (hsub : r'.set ⊆ r.set)
      (h' : ∀ x y, r'.emb x = r.emb y → X' x = X y) : (m.slice r' hr').view.read Val f = X' := by
    funext x
    obtain ⟨y, hy⟩ := r.exists_idx_of_mem (hsub (r'.idx_mem x))
    have hy' : r'.emb x = r.emb y := hy.symm
    rw [h' x y hy', ← hf, read_at, read_at, hy']
  rw [hset]
  ihave H' := (pointsTo_union hdis).1 $$ H
  icases H' with ⟨H1, H2⟩
  isplitl [H1]
  · iexists f; isplitr
    · ipureintro; exact hread r₁ hr₁ X₁ (hS ▸ Finset.subset_union_left) h₁
    · iexact H1
  · iexists f; isplitr
    · ipureintro; exact hread r₂ hr₂ X₂ (hS ▸ Finset.subset_union_right) h₂
    · iexact H2

/-- Two disjoint rectangles that cover a third, each owned at what the third is to hold there, are the third owned. -/
theorem join2 (r r₁ r₂ : Rect sh) (hr : ∀ a, r.stride a = 1) (hr₁ : ∀ a, r₁.stride a = 1) (hr₂ : ∀ a, r₂.stride a = 1)
    (hS : r.set = r₁.set ∪ r₂.set) (hd : Disjoint r₁.set r₂.set)
    (X : r.shape.Idx → Val e) (X₁ : r₁.shape.Idx → Val e) (X₂ : r₂.shape.Idx → Val e)
    (h₁ : ∀ x y, r₁.emb x = r.emb y → X₁ x = X y) (h₂ : ∀ x y, r₂.emb x = r.emb y → X₂ x = X y) :
    iprop(owns c (m.slice r₁ hr₁) q X₁ ∗ owns c (m.slice r₂ hr₂) q X₂) ⊢ (owns c (m.slice r hr) q X : sProp 𝕄) := by
  have hset : (m.slice r hr).view.set = (m.slice r₁ hr₁).view.set ∪ (m.slice r₂ hr₂).view.set := by
    simp only [Memref.view_slice, View.set_slice, hS, Finset.map_union]
  have hdis : Disjoint (m.slice r₁ hr₁).view.set (m.slice r₂ hr₂).view.set := by
    simp only [Memref.view_slice, View.set_slice]; exact (Finset.disjoint_map _).mpr hd
  unfold owns
  iintro ⟨⟨%f, %hf, H1⟩, ⟨%g, %hg, H2⟩⟩
  iexists (m.slice r₂ hr₂).view.set.piecewise g f
  isplitr
  · ipureintro
    funext y
    have hy : r.emb y ∈ r₁.set ∪ r₂.set := hS ▸ r.idx_mem y
    rcases Finset.mem_union.mp hy with h | h
    · obtain ⟨x, hx⟩ := r₁.exists_idx_of_mem h
      have hx' : r₁.emb x = r.emb y := hx
      rw [← h₁ x y hx', ← hf, read_at, read_at, hx', View.read_apply, View.read_apply, Finset.piecewise_eq_of_notMem]
      refine Finset.disjoint_left.mp hdis ?_
      simp only [Memref.view_slice, View.set_slice]; exact Finset.mem_map_of_mem _ h
    · obtain ⟨x, hx⟩ := r₂.exists_idx_of_mem h
      have hx' : r₂.emb x = r.emb y := hx
      rw [← h₂ x y hx', ← hg, read_at, read_at, hx', View.read_apply, View.read_apply, Finset.piecewise_eq_of_mem]
      simp only [Memref.view_slice, View.set_slice]; exact Finset.mem_map_of_mem _ h
  · rw [hset]
    iapply (pointsTo_join hdis)
    isplitl [H1]; · iexact H1
    iexact H2

/-- A memref owned at some contents, whatever they are. -/
def any : sProp 𝕄 := iprop(∃ X, owns c m q X)

/-- Owned at known contents is owned at some. -/
theorem any_intro (X : sh.Idx → Val e) : (owns c m q X : sProp 𝕄) ⊢ any c m q := by
  unfold any; iintro H; iexists X; iexact H

/-- The cut of a rectangle, contents forgotten. -/
theorem any_split2 (r r₁ r₂ : Rect sh) (hr : ∀ a, r.stride a = 1) (hr₁ : ∀ a, r₁.stride a = 1) (hr₂ : ∀ a, r₂.stride a = 1)
    (hS : r.set = r₁.set ∪ r₂.set) (hd : Disjoint r₁.set r₂.set) :
    (any c (m.slice r hr) q : sProp 𝕄) ⊢ iprop(any c (m.slice r₁ hr₁) q ∗ any c (m.slice r₂ hr₂) q) := by
  unfold any owns
  iintro ⟨%X, %f, -, H⟩
  have hf : (m.slice r hr).view.read Val f = fun y => m.view.read Val f (r.emb y) := rfl
  ihave H1 := (owns_intro c (m.slice r hr) q f) $$ H
  rw [hf]
  ihave H2 := (split2 c m q r r₁ r₂ hr hr₁ hr₂ hS hd _ (fun y => m.view.read Val f (r₁.emb y)) (fun y => m.view.read Val f (r₂.emb y))
    (fun x y h => congrArg (m.view.read Val f) h) (fun x y h => congrArg (m.view.read Val f) h)) $$ H1
  unfold owns
  icases H2 with ⟨H1, H2⟩
  isplitl [H1]
  · iexists _; iexact H1
  · iexists _; iexact H2

/-- Two disjoint parts owned at some contents are the rectangle they cover owned at some contents. -/
theorem any_join2 (r r₁ r₂ : Rect sh) (hr : ∀ a, r.stride a = 1) (hr₁ : ∀ a, r₁.stride a = 1) (hr₂ : ∀ a, r₂.stride a = 1)
    (hS : r.set = r₁.set ∪ r₂.set) (hd : Disjoint r₁.set r₂.set) :
    iprop(any c (m.slice r₁ hr₁) q ∗ any c (m.slice r₂ hr₂) q) ⊢ (any c (m.slice r hr) q : sProp 𝕄) := by
  have hset : (m.slice r hr).view.set = (m.slice r₁ hr₁).view.set ∪ (m.slice r₂ hr₂).view.set := by
    simp only [Memref.view_slice, View.set_slice, hS, Finset.map_union]
  have hdis : Disjoint (m.slice r₁ hr₁).view.set (m.slice r₂ hr₂).view.set := by
    simp only [Memref.view_slice, View.set_slice]; exact (Finset.disjoint_map _).mpr hd
  unfold any owns
  iintro ⟨⟨%X1, %f, -, H1⟩, ⟨%X2, %g, -, H2⟩⟩
  iexists _; iexists (m.slice r₂ hr₂).view.set.piecewise g f
  isplitr; · (ipureintro; rfl)
  rw [hset]
  iapply (pointsTo_join hdis)
  isplitl [H1]; · iexact H1
  iexact H2

/-- A whole buffer is the slice of it at its whole rectangle, contents forgotten. -/
theorem any_whole (b : Ref sig c.2.kind) (r : Rect b.ty.shape) (hr : ∀ a, r.stride a = 1) (hS : r.set = Finset.univ) :
    (iprop(∃ f, (c.loc b) ↦{q} f) : sProp 𝕄) = any c ((Memref.whole b).slice r hr) q := by
  have hset : ((Memref.whole b).slice r hr).view.set = Finset.univ := by
    simp only [Memref.view_slice, Memref.view_whole, View.set_slice_whole, hS]
  have h₁ : (iprop(∃ f, (c.loc b) ↦{q} f) : sProp 𝕄) ⊢ any c ((Memref.whole b).slice r hr) q := by
    unfold any owns
    iintro ⟨%f, H⟩
    iexists _; iexists f
    isplitr; · (ipureintro; rfl)
    rw [hset]; iexact H
  have h₂ : any c ((Memref.whole b).slice r hr) q ⊢ (iprop(∃ f, (c.loc b) ↦{q} f) : sProp 𝕄) := by
    unfold any owns
    iintro ⟨%X, %f, -, H⟩
    iexists f
    rw [hset]; iexact H
  exact BI.equiv_iff.mp ⟨h₁, h₂⟩

/-- Owned at some contents may appear in the body of an invariant. -/
instance any_storable : BI.Storable (upEmb : UEmb _ 𝕄) (any c m q : sProp 𝕄) := by
  unfold any; infer_instance

/-- A memref with its axes of one coordinate dropped owns the same elements, read along the re-indexing. -/
theorem owns_squeeze (sh' : Shape) (h : sh.Squeezes sh') (X : sh.Idx → Val e) :
    (owns c m q X : sProp 𝕄) = owns c (m.squeeze sh' h) q (fun j => X (Shape.reshapeEquiv h.numel_eq j)) := by
  have hset : (m.squeeze sh' h).view.set = m.view.set :=
    View.map_univ_equiv_trans m.view (Shape.reshapeEquiv h.numel_eq)
  have hread (f : m.view.ty.Contents Val) :
      (m.squeeze sh' h).view.read Val f = fun j => m.view.read Val f (Shape.reshapeEquiv h.numel_eq j) := rfl
  have hiff (f : m.view.ty.Contents Val) :
      ((m.squeeze sh' h).view.read Val f = fun j => X (Shape.reshapeEquiv h.numel_eq j)) ↔ m.view.read Val f = X := by
    rw [hread]
    exact ⟨fun h' => funext fun x => by
      simpa only [Equiv.apply_symm_apply] using congrFun h' ((Shape.reshapeEquiv h.numel_eq).symm x), fun h' => by rw [h']⟩
  unfold owns
  simp only [hiff, hset]

/-- The same, contents forgotten. -/
theorem any_squeeze (sh' : Shape) (h : sh.Squeezes sh') : (any c (m.squeeze sh' h) q : sProp 𝕄) ⊢ any c m q := by
  unfold any
  iintro ⟨%X, H⟩
  iexists fun x => X ((Shape.reshapeEquiv h.numel_eq).symm x)
  rw [owns_squeeze c m q sh' h]
  simp only [Equiv.symm_apply_apply]
  iexact H

end General

section Steps

variable {nD : Nat} {τ : Topo} {sig : RefSig} {Ix : Type} [DecidableEq Ix]
variable {Val : EltTy → Type} {Name : Type} [DecidableEq Name]
variable {U : Type} [URA U] {Lvl : Type} {Λ : Labels}
variable [Preorder Lvl] {defs : Defs nD τ sig Val Λ} (𝒱 : Variants) (c : Thread nD τ)

local notation "𝕄" => MT nD τ sig Ix Val Name U Lvl

variable {sh : Shape} {e : EltTy} {cs : CoreSpace} {m : Memref sig c.2.kind cs sh e}
variable {α : Type} {Q : α → sProp (MT nD τ sig Ix Val Name U Lvl)}

/-- A load through any coordinates of a memref owned whole reads the owned contents there. -/
theorem wp_ld {r : LoadRect sh} {hl : m.view.LoadsAt r} {k : (r.shape.Idx → Val e) → Prog (TpuEff nD τ sig Val Λ c.2) α}
    (q : PosShare TreeShare) (X : sh.Idx → Val e) :
    (owns c m q X : sProp 𝕄)
      ⊢ iprop((owns c m q X -∗ wp frame (wpE defs 𝒱 c none) Set.univ (k fun i => X (r.idx i)) Q)
        -∗ wp frame (wpE defs 𝒱 c none) Set.univ (.op (.load m r hl) k) Q) := by
  have hsub : m.view.setOn r.set ⊆ m.view.set := by
    rw [← View.setOn_univ]; exact Finset.map_subset_map.mpr (Finset.subset_univ _)
  iintro H Hk
  ihave H' := (show owns c m q X ⊢ iprop(∃ g, ⌜m.view.read Val g = X⌝ ∗ m.view.loc c ↦[m.view.set]{q} g) from .rfl) $$ H
  icases H' with ⟨%f, %hf, H⟩
  subst hf
  iapply (wp_load 𝒱 c none Set.univ (m := m) hsub) $$ H
  iintro H
  rw [show m.view.readAt Val r f = fun i => m.view.read Val f (r.idx i) from rfl]
  iapply Hk
  iapply (owns_intro c m q f); iexact H

/-- A load through an owned rectangle reads what is owned there. -/
theorem wp_ldr {r : Rect sh} (hr : ∀ a, r.stride a = 1) {hl : m.view.LoadsAt r.toLoadRect}
    {k : (r.shape.Idx → Val e) → Prog (TpuEff nD τ sig Val Λ c.2) α} (q : PosShare TreeShare) (X : r.shape.Idx → Val e) :
    (owns c (m.slice r hr) q X : sProp 𝕄)
      ⊢ iprop((owns c (m.slice r hr) q X -∗ wp frame (wpE defs 𝒱 c none) Set.univ (k X) Q)
        -∗ wp frame (wpE defs 𝒱 c none) Set.univ (.op (.load m r.toLoadRect hl) k) Q) := by
  iintro H Hk
  ihave H' := (show owns c (m.slice r hr) q X ⊢ iprop(∃ g, ⌜(m.access r).read Val g = X⌝ ∗ (m.access r).loc c ↦[(m.access r).set]{q} g) from .rfl) $$ H
  icases H' with ⟨%f, %hf, H⟩
  subst hf
  iapply (wp_load_rect 𝒱 c none Set.univ (m := m) (r := r) (Finset.Subset.refl _)) $$ H
  iintro H
  iapply Hk
  iapply (owns_intro c (m.slice r hr) q f); iexact H

/-- A store through a rectangle owned at whatever contents leaves it owned at what was stored. -/
theorem wp_st {r : Rect sh} (hr : ∀ a, r.stride a = 1) {w : r.shape.Idx → Val e} {hx : (m.access r).Stores Finset.univ}
    {hm : (Finset.univ : Finset r.shape.Idx) = Finset.univ ∨ ∀ a, r.stride a = 1}
    {k : PUnit → Prog (TpuEff nD τ sig Val Λ c.2) α} :
    (any c (m.slice r hr) fullShare : sProp 𝕄)
      ⊢ iprop((owns c (m.slice r hr) fullShare w -∗ wp frame (wpE defs 𝒱 c none) Set.univ (k ⟨⟩) Q)
        -∗ wp frame (wpE defs 𝒱 c none) Set.univ (.op (.store m r w Finset.univ hx hm) k) Q) := by
  iintro H Hk
  ihave H' := (show any c (m.slice r hr) fullShare ⊢ iprop(∃ X g, ⌜(m.access r).read Val g = X⌝ ∗ (m.access r).loc c ↦[(m.access r).set]{fullShare} g) from .rfl) $$ H
  icases H' with ⟨%X, %f, -, H⟩
  iapply (wp_store 𝒱 c none Set.univ (m := m) (r := r) (Mk := Finset.univ) (S := (m.access r).set) (Finset.Subset.refl _)) $$ H
  iintro H
  iapply Hk
  have h : (((m.access r).loc c ↦[(m.access r).set]{fullShare} (m.access r).write Val f w Finset.univ) : sProp 𝕄)
      ⊢ owns c (m.slice r hr) fullShare w := by
    unfold owns
    iintro H
    iexists _; isplitr
    · ipureintro; exact View.read_write_univ (v := m.access r) f w
    · iexact H
  iapply h; iexact H

/-- A load whose result nothing reads, then a store through the same rectangle. -/
theorem wp_upd {r : Rect sh} (hr : ∀ a, r.stride a = 1) {w : r.shape.Idx → Val e} {hl : m.view.LoadsAt r.toLoadRect}
    {hx : (m.access r).Stores Finset.univ} {hm : (Finset.univ : Finset r.shape.Idx) = Finset.univ ∨ ∀ a, r.stride a = 1}
    {k : PUnit → Prog (TpuEff nD τ sig Val Λ c.2) α} :
    (any c (m.slice r hr) fullShare : sProp 𝕄)
      ⊢ iprop((owns c (m.slice r hr) fullShare w -∗ wp frame (wpE defs 𝒱 c none) Set.univ (k ⟨⟩) Q)
        -∗ wp frame (wpE defs 𝒱 c none) Set.univ
            (.op (.load m r.toLoadRect hl) fun _ => .op (.store m r w Finset.univ hx hm) k) Q) := by
  iintro H Hk
  ihave H' := (show any c (m.slice r hr) fullShare ⊢ iprop(∃ X, owns c (m.slice r hr) fullShare X) from .rfl) $$ H
  icases H' with ⟨%X, H⟩
  iapply (wp_ldr 𝒱 c (m := m) hr fullShare X) $$ H
  iintro H
  iapply (wp_st 𝒱 c (m := m) hr (w := w)) $$ [H]
  · iapply (any_intro c (m.slice r hr) fullShare X); iexact H
  iexact Hk

/-- A computed part of a sum: a block of `x` is loaded, the plane's old contents are loaded and dropped, and what is
    computed of the block is stored as the plane. -/
theorem wp_plane {sx : Shape} {ex : EltTy} {csx : CoreSpace} {mx : Memref sig c.2.kind csx sx ex} {rx : LoadRect sx} {hlx : mx.view.LoadsAt rx}
    {r : Rect sh} (hr : ∀ a, r.stride a = 1) {g : (rx.shape.Idx → Val ex) → r.shape.Idx → Val e} {hl : m.view.LoadsAt r.toLoadRect}
    {hx : (m.access r).Stores Finset.univ} {hm : (Finset.univ : Finset r.shape.Idx) = Finset.univ ∨ ∀ a, r.stride a = 1}
    {k : PUnit → Prog (TpuEff nD τ sig Val Λ c.2) α} (q : PosShare TreeShare) (X : sx.Idx → Val ex) :
    (iprop(owns c mx q X ∗ any c (m.slice r hr) fullShare) : sProp 𝕄)
      ⊢ iprop((owns c mx q X -∗ owns c (m.slice r hr) fullShare (g fun i => X (rx.idx i)) -∗ wp frame (wpE defs 𝒱 c none) Set.univ (k ⟨⟩) Q)
        -∗ wp frame (wpE defs 𝒱 c none) Set.univ
            (.op (.load mx rx hlx) fun v => .op (.load m r.toLoadRect hl) fun _ => .op (.store m r (g v) Finset.univ hx hm) k) Q) := by
  iintro ⟨Hx, H⟩ Hk
  iapply (wp_ld 𝒱 c (m := mx) q X) $$ Hx
  iintro Hx
  iapply (wp_upd 𝒱 c (m := m) hr (w := g fun i => X (rx.idx i))) $$ H
  iapply Hk; iexact Hx

/-- Running a program's first part by a triple for it whose result is known: the rest goes on from that result. -/
theorem wp_part {β : Type} {p : Prog (TpuEff nD τ sig Val Λ c.2) β} {k : β → Prog (TpuEff nD τ sig Val Λ c.2) α}
    {P R : sProp 𝕄} (v : β) (h : P ⊢ wp frame (wpE defs 𝒱 c none) Set.univ p (fun r => iprop(⌜r = v⌝ ∗ R))) :
    P ⊢ iprop((R -∗ wp frame (wpE defs 𝒱 c none) Set.univ (k v) Q) -∗ wp frame (wpE defs 𝒱 c none) Set.univ (p >>= k) Q) := by
  rw [wp_bind]
  iintro HP Hk
  ihave H := h $$ HP
  have h' : iprop(wp frame (wpE defs 𝒱 c none) Set.univ p (fun r => iprop(⌜r = v⌝ ∗ R))
      ∗ (R -∗ wp frame (wpE defs 𝒱 c none) Set.univ (k v) Q))
      ⊢ wp frame (wpE defs 𝒱 c none) Set.univ p (fun a => wp frame (wpE defs 𝒱 c none) Set.univ (k a) Q) := by
    refine (wp_frame_r _ _ _).trans (wp_mono _ _ _ fun a => ?_)
    iintro ⟨⟨%ha, HR⟩, Hk⟩
    subst ha
    iapply Hk; iexact HR
  iapply h'
  isplitl [H]; · iexact H
  iexact Hk

end Steps

/-! ## Stacks of planes -/

section Planes

variable {W D : ℕ}

/-- A stack of `n` planes, each of 512 rows and `W` columns. -/
abbrev St (n W : ℕ) : Shape := ⟨3, ![n, 512, W]⟩

/-- The `n` planes of a stack from plane `a` on. -/
abbrev pl (D W a n : ℕ) (h : ∀ i, (![a, 0, 0] : Fin 3 → ℕ) i + (![n, 512, W] : Fin 3 → ℕ) i ≤ (St D W).size i) : Rect (St D W) :=
  Rect.unit (s := St D W) ![a, 0, 0] ![n, 512, W] h

/-- An index of a stack belongs to those planes when its plane does. -/
theorem mem_pl {a n : ℕ} {h} {i : (St D W).Idx} : i ∈ (pl D W a n h).set ↔ a ≤ (i 0).val ∧ (i 0).val < a + n := by
  rw [Rect.mem_set_unit]
  constructor
  · intro H; exact H 0
  · intro H b
    match b with
    | ⟨0, _⟩ => exact H
    | ⟨1, _⟩ => exact ⟨Nat.zero_le _, by have := (i 1).isLt; simpa using this⟩
    | ⟨2, _⟩ => exact ⟨Nat.zero_le _, by have := (i 2).isLt; simpa using this⟩

/-- Consecutive runs of planes cover the run they make up. -/
theorem pl_union {a b n n₁ n₂ : ℕ} (hb : b = a + n₁) (hn : n = n₁ + n₂) (h h₁ h₂) :
    (pl D W a n h).set = (pl D W a n₁ h₁).set ∪ (pl D W b n₂ h₂).set := by
  ext i
  rw [Finset.mem_union, mem_pl, mem_pl, mem_pl]
  omega

/-- Consecutive runs of planes are disjoint. -/
theorem pl_disjoint {a b n₁ n₂ : ℕ} (hb : b = a + n₁) (h₁ h₂) :
    Disjoint (pl D W a n₁ h₁).set (pl D W b n₂ h₂).set := by
  rw [Finset.disjoint_left]
  intro i hi hi'
  rw [mem_pl] at hi hi'
  omega

/-- Every plane of the stack. -/
theorem pl_all (h) : (pl D W 0 D h).set = Finset.univ := by
  ext i
  rw [mem_pl]
  have := (i 0).isLt
  simp only [Finset.mem_univ, iff_true]
  exact ⟨Nat.zero_le _, by simpa using this⟩

/-- The index of plane `p` of a stack at the row and column of `i`. -/
def at_ {n n' : ℕ} (p : Fin n') (i : (St n W).Idx) : (St n' W).Idx :=
  fun | ⟨0, _⟩ => p | ⟨1, _⟩ => i 1 | ⟨2, _⟩ => i 2

/-- One stack upon another. -/
def stack {α : Type} {n₁ n₂ n : ℕ} (hn : n = n₁ + n₂) (P : (St n₁ W).Idx → α) (P' : (St n₂ W).Idx → α) : (St n W).Idx → α :=
  fun i => if h : (i 0).val < n₁ then P (at_ ⟨(i 0).val, h⟩ i)
    else P' (at_ ⟨(i 0).val - n₁, by have h' : (i 0).val < n := (i 0).isLt; omega⟩ i)

/-- The `n₁` planes of a stack from plane `k` on. -/
def part {α : Type} {n n₁ : ℕ} (k : ℕ) (hk : k + n₁ ≤ n) (X : (St n W).Idx → α) : (St n₁ W).Idx → α :=
  fun i => X (at_ ⟨k + (i 0).val, by have h' : (i 0).val < n₁ := (i 0).isLt; omega⟩ i)

/-- What two runs of planes placing their indices at the same element says of the coordinates. -/
theorem emb_coords {a b n n' : ℕ} {h h'} {x : (St n W).Idx} {y : (St n' W).Idx}
    (e : (pl D W a n h).emb x = (pl D W b n' h').emb y) :
    a + (x 0).val = b + (y 0).val ∧ (x 1).val = (y 1).val ∧ (x 2).val = (y 2).val := by
  have e0 := congrArg (fun i : (St D W).Idx => (i 0).val) e
  have e1 := congrArg (fun i : (St D W).Idx => (i 1).val) e
  have e2 := congrArg (fun i : (St D W).Idx => (i 2).val) e
  simp only [Rect.emb_apply, Rect.off_unit, Rect.stride_unit] at e0 e1 e2
  change a + 1 * (x 0).val = b + 1 * (y 0).val at e0
  change 0 + 1 * (x 1).val = 0 + 1 * (y 1).val at e1
  change 0 + 1 * (x 2).val = 0 + 1 * (y 2).val at e2
  omega

/-- Two indices of a stack with equal coordinates are equal. -/
theorem st_ext {n : ℕ} {x y : (St n W).Idx} (h0 : (x 0).val = (y 0).val) (h1 : (x 1).val = (y 1).val) (h2 : (x 2).val = (y 2).val) : x = y := by
  funext b
  match b with
  | ⟨0, _⟩ => exact Fin.ext h0
  | ⟨1, _⟩ => exact Fin.ext h1
  | ⟨2, _⟩ => exact Fin.ext h2

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable (c : Thread nD τ) {sp : Space} {e : EltTy} (m : Memref sig c.2.kind sp (St D W) e) (q : PosShare TreeShare)

/-- Two consecutive runs of planes owned are the run they make up, owned at the one stacked upon the other. -/
theorem join_pl {a b n n₁ n₂ : ℕ} (hb : b = a + n₁) (hn : n = n₁ + n₂) (h h₁ h₂)
    (P : (St n₁ W).Idx → Val e) (P' : (St n₂ W).Idx → Val e) :
    iprop(owns c (m.slice (pl D W a n₁ h₁) (fun _ => rfl)) q P ∗ owns c (m.slice (pl D W b n₂ h₂) (fun _ => rfl)) q P')
      ⊢ (owns c (m.slice (pl D W a n h) (fun _ => rfl)) q (stack hn P P') : sProp 𝕄) := by
  refine join2 c m q (pl D W a n h) (pl D W a n₁ h₁) (pl D W b n₂ h₂) _ _ _ (pl_union hb hn h h₁ h₂) (pl_disjoint hb h₁ h₂) _ P P' ?_ ?_
  · intro x y e
    obtain ⟨e0, e1, e2⟩ := emb_coords e
    have hx : (x 0).val < n₁ := (x 0).isLt
    have hy : ((y : (St n W).Idx) 0).val < n₁ := by omega
    show P x = stack hn P P' y
    unfold stack; rw [dif_pos hy]
    exact congrArg P (st_ext (by show _ = (y 0).val; omega) e1 e2)
  · intro x y e
    obtain ⟨e0, e1, e2⟩ := emb_coords e
    have hy : ¬ ((y : (St n W).Idx) 0).val < n₁ := by omega
    show P' x = stack hn P P' y
    unfold stack; rw [dif_neg hy]
    exact congrArg P' (st_ext (by show _ = (y 0).val - n₁; omega) e1 e2)

/-- A run of planes owned is its two consecutive runs owned. -/
theorem split_pl {a b n n₁ n₂ : ℕ} (hb : b = a + n₁) (hn : n = n₁ + n₂) (h h₁ h₂) (X : (St n W).Idx → Val e) :
    (owns c (m.slice (pl D W a n h) (fun _ => rfl)) q X : sProp 𝕄)
      ⊢ iprop(owns c (m.slice (pl D W a n₁ h₁) (fun _ => rfl)) q (part 0 (by omega) X)
          ∗ owns c (m.slice (pl D W b n₂ h₂) (fun _ => rfl)) q (part n₁ (by omega) X)) := by
  refine split2 c m q (pl D W a n h) (pl D W a n₁ h₁) (pl D W b n₂ h₂) _ _ _ (pl_union hb hn h h₁ h₂) (pl_disjoint hb h₁ h₂) X _ _ ?_ ?_
  · intro x y e
    obtain ⟨e0, e1, e2⟩ := emb_coords e
    exact congrArg X (st_ext (by show 0 + (x 0).val = _; omega) e1 e2)
  · intro x y e
    obtain ⟨e0, e1, e2⟩ := emb_coords e
    exact congrArg X (st_ext (by show n₁ + (x 0).val = _; omega) e1 e2)

/-- The same cut with the contents forgotten. -/
theorem any_split_pl {a b n n₁ n₂ : ℕ} (hb : b = a + n₁) (hn : n = n₁ + n₂) (h h₁ h₂) :
    (any c (m.slice (pl D W a n h) (fun _ => rfl)) q : sProp 𝕄)
      ⊢ iprop(any c (m.slice (pl D W a n₁ h₁) (fun _ => rfl)) q ∗ any c (m.slice (pl D W b n₂ h₂) (fun _ => rfl)) q) :=
  any_split2 c m q (pl D W a n h) (pl D W a n₁ h₁) (pl D W b n₂ h₂) _ _ _ (pl_union hb hn h h₁ h₂) (pl_disjoint hb h₁ h₂)

/-- And put together again. -/
theorem any_join_pl {a b n n₁ n₂ : ℕ} (hb : b = a + n₁) (hn : n = n₁ + n₂) (h h₁ h₂) :
    iprop(any c (m.slice (pl D W a n₁ h₁) (fun _ => rfl)) q ∗ any c (m.slice (pl D W b n₂ h₂) (fun _ => rfl)) q)
      ⊢ (any c (m.slice (pl D W a n h) (fun _ => rfl)) q : sProp 𝕄) :=
  any_join2 c m q (pl D W a n h) (pl D W a n₁ h₁) (pl D W b n₂ h₂) _ _ _ (pl_union hb hn h h₁ h₂) (pl_disjoint hb h₁ h₂)

end Planes

end Cert.Own

end
-- ==== Proof.Contents.lean ====
/-
What the kernel computes, buffer by buffer, over any float values.

Device `c` multiplies each block of 512 rows of its `x` by a run of columns of
its `w`; the product of one block is a plane.  Group A has columns 0–767,
group B 768–1407, group C 1408–2047.  In a group, four planes (4–7) go to one
neighbour; of the four it keeps, planes 2 and 3, with the neighbour's added, go
to a second; of the two left, plane 1, with what arrived added, goes to a
third; plane 0 with everything added is the device's block of the result.
-/
module

public import proofs.«01_k».proof.Proof.Own
public import proofs.«01_k».proof.Proof.Gen.KernelIdeal
public import proofs.«01_k».proof.Proof.Gen.KernelIdeal.Skeleton

@[expose] public section

noncomputable section

namespace Cert.KernelIdealProof

open Cert.KernelIdeal Cert.KernelIdeal.Gen Cert.Own

open Idealize.ShloMosaic
open Idealize.ShloMosaic.TcCoe

variable {F : FTy → Type} [FloatOps F]

/-! ## Neighbours -/

/-- The three neighbours of a device: its number with the bits of 1, of 3, of 4 flipped. -/
def px (j : Fin 3) (c : Dev nD) : Dev nD := (![![1, 0, 3, 2, 5, 4, 7, 6], ![3, 2, 1, 0, 7, 6, 5, 4], ![4, 5, 6, 7, 0, 1, 2, 3]] : Fin 3 → Fin 8 → Fin 8) j c

/-- Being a neighbour is mutual. -/
theorem px_px (j : Fin 3) (c : Dev nD) : px j (px j c) = c := by revert j c; decide

/-- Which neighbour transfer `k` goes to; transfer `3g + s` is step `s` of group `g`. -/
def tj (k : Fin 9) : Fin 3 := (![0, 1, 2, 1, 2, 0, 2, 0, 1] : Fin 9 → Fin 3) k

/-- The device transfer `k` of device `c` goes to, and the one whose transfer `k` comes to `c`. -/
def peer (k : Fin 9) (c : Dev nD) : Dev nD := px (tj k) c

/-- A transfer goes to the device that the same transfer comes from. -/
theorem peer_peer (k : Fin 9) (c : Dev nD) : peer k (peer k c) = c := px_px _ c

/-- Transfers and neighbours as equivalences of the devices. -/
def pxE (j : Fin 3) : Dev nD ≃ Dev nD := ⟨px j, px j, px_px j, px_px j⟩
def peerE (k : Fin 9) : Dev nD ≃ Dev nD := pxE (tj k)

/-! ## Contents -/

/-- What every device's body reads: its blocks of `x` and `w`, and the two scales. -/
structure Inp (F : FTy → Type) where
  x : Dev nD → S4096x512.Idx → Elt F .fp8e4m3
  w : Dev nD → S512x2048.Idx → Elt F .fp8e5m2
  a : Dev nD → S1.Idx → Elt F .f32
  b : Dev nD → S1.Idx → Elt F .f32

variable (I : Inp F)

/-- What loading through `r` reads of contents `X`. -/
abbrev rd {s : Shape} {α : Type} (r : LoadRect s) (X : s.Idx → α) : r.shape.Idx → α := fun i => X (r.idx i)

/-- The block of `x` of the device numbered `c` with the bits of `r` flipped. -/
def xr (c : Dev nD) (r : Fin 8) : Vec F S512x512 .fp8e4m3 :=
  rd (Rect.unit (s := S4096x512) (k0_off1 c (BitVec.ofNat 32 r.val)) S512x512.size (k0_off1_inb c r)).toLoadRect (I.x c)
/-- All of `w`. -/
def wr (c : Dev nD) : Vec F S512x2048 .fp8e5m2 :=
  rd (Rect.unit (s := S512x2048) ![0, 0] S512x2048.size inb_S512x2048_S512x2048_0_0).toLoadRect (I.w c)
/-- `w` at the width the products take. -/
def we (c : Dev nD) : FVec F S512x2048 .bf16 := k0_pay1 (wr I c)

/-! The planes of group A. -/
def pA4 (c : Dev nD) : S1x512x768.Idx → Elt F .bf16 := k0_pay2 (wr I c) (xr I c 1)
def pA5 (c : Dev nD) : S1x512x768.Idx → Elt F .bf16 := k0_pay3 (we I c) (xr I c 5)
def pA6 (c : Dev nD) : S1x512x768.Idx → Elt F .bf16 := k0_pay4 (we I c) (xr I c 2)
def pA7 (c : Dev nD) : S1x512x768.Idx → Elt F .bf16 := k0_pay5 (we I c) (xr I c 6)
def pA0 (c : Dev nD) : S1x512x768.Idx → Elt F .bf16 := k0_pay14 (we I c) (xr I c 0)
def pA1 (c : Dev nD) : S1x512x768.Idx → Elt F .bf16 := k0_pay17 (k0_pay15 (xr I c 4)) (k0_pay16 (we I c))
def pA2 (c : Dev nD) : S1x512x768.Idx → Elt F .bf16 := k0_pay18 (we I c) (xr I c 3)
def pA3 (c : Dev nD) : S1x512x768.Idx → Elt F .bf16 := k0_pay19 (we I c) (xr I c 7)
/-! Of group B. -/
def pB4 (c : Dev nD) : S1x512x640.Idx → Elt F .bf16 := k0_pay6 (we I c) (xr I c 3)
def pB5 (c : Dev nD) : S1x512x640.Idx → Elt F .bf16 := k0_pay7 (we I c) (xr I c 2)
def pB6 (c : Dev nD) : S1x512x640.Idx → Elt F .bf16 := k0_pay8 (we I c) (xr I c 7)
def pB7 (c : Dev nD) : S1x512x640.Idx → Elt F .bf16 := k0_pay9 (we I c) (xr I c 6)
def pB0 (c : Dev nD) : S1x512x640.Idx → Elt F .bf16 := k0_pay22 (k0_pay20 (xr I c 0)) (k0_pay21 (we I c))
def pB1 (c : Dev nD) : S1x512x640.Idx → Elt F .bf16 := k0_pay23 (we I c) (xr I c 1)
def pB2 (c : Dev nD) : S1x512x640.Idx → Elt F .bf16 := k0_pay24 (we I c) (xr I c 4)
def pB3 (c : Dev nD) : S1x512x640.Idx → Elt F .bf16 := k0_pay27 (k0_pay25 (xr I c 5)) (k0_pay26 (we I c))
/-! Of group C. -/
def pC4 (c : Dev nD) : S1x512x640.Idx → Elt F .bf16 := k0_pay10 (we I c) (xr I c 4)
def pC5 (c : Dev nD) : S1x512x640.Idx → Elt F .bf16 := k0_pay11 (we I c) (xr I c 7)
def pC6 (c : Dev nD) : S1x512x640.Idx → Elt F .bf16 := k0_pay12 (we I c) (xr I c 5)
def pC7 (c : Dev nD) : S1x512x640.Idx → Elt F .bf16 := k0_pay13 (we I c) (xr I c 6)
def pC0 (c : Dev nD) : S1x512x640.Idx → Elt F .bf16 := k0_pay28 (we I c) (xr I c 0)
def pC1 (c : Dev nD) : S1x512x640.Idx → Elt F .bf16 := k0_pay29 (we I c) (xr I c 3)
def pC2 (c : Dev nD) : S1x512x640.Idx → Elt F .bf16 := k0_pay32 (k0_pay30 (xr I c 1)) (k0_pay31 (we I c))
def pC3 (c : Dev nD) : S1x512x640.Idx → Elt F .bf16 := k0_pay33 (we I c) (xr I c 2)

/-- Two planes as a stack, and four. -/
abbrev st2 {W : ℕ} {α : Type} (P P' : (St 1 W).Idx → α) : (St 2 W).Idx → α := stack (n := 2) rfl P P'
abbrev st4 {W : ℕ} {α : Type} (P P' P'' P''' : (St 1 W).Idx → α) : (St 4 W).Idx → α := stack (n := 4) rfl (st2 P P') (st2 P'' P''')

/-! ### The first transfers: planes 4–7 -/
def hiA (c : Dev nD) : S4x512x768.Idx → Elt F .bf16 := st4 (pA4 I c) (pA5 I c) (pA6 I c) (pA7 I c)
def hiB (c : Dev nD) : S4x512x640.Idx → Elt F .bf16 := st4 (pB4 I c) (pB5 I c) (pB6 I c) (pB7 I c)
def hiC (c : Dev nD) : S4x512x640.Idx → Elt F .bf16 := st4 (pC4 I c) (pC5 I c) (pC6 I c) (pC7 I c)

/-! The rectangles read and written. -/
abbrev rA42 : Rect S4x512x768 := Rect.unit (s := S4x512x768) ![2, 0, 0] S2x512x768.size inb_S4x512x768_S2x512x768_2_0_0
abbrev rA40 : Rect S4x512x768 := Rect.unit (s := S4x512x768) ![0, 0, 0] S2x512x768.size inb_S4x512x768_S2x512x768_0_0_0
abbrev rA21 : Rect S2x512x768 := Rect.unit (s := S2x512x768) ![1, 0, 0] S1x512x768.size inb_S2x512x768_S1x512x768_1_0_0
abbrev rA20 : Rect S2x512x768 := Rect.unit (s := S2x512x768) ![0, 0, 0] S1x512x768.size inb_S2x512x768_S1x512x768_0_0_0
abbrev rA10 : Rect S512x768 := Rect.unit (s := S512x768) ![0, 0] S512x768.size inb_S512x768_S512x768_0_0
abbrev rB42 : Rect S4x512x640 := Rect.unit (s := S4x512x640) ![2, 0, 0] S2x512x640.size inb_S4x512x640_S2x512x640_2_0_0
abbrev rB40 : Rect S4x512x640 := Rect.unit (s := S4x512x640) ![0, 0, 0] S2x512x640.size inb_S4x512x640_S2x512x640_0_0_0
abbrev rB21 : Rect S2x512x640 := Rect.unit (s := S2x512x640) ![1, 0, 0] S1x512x640.size inb_S2x512x640_S1x512x640_1_0_0
abbrev rB20 : Rect S2x512x640 := Rect.unit (s := S2x512x640) ![0, 0, 0] S1x512x640.size inb_S2x512x640_S1x512x640_0_0_0
abbrev rB10 : Rect S512x640 := Rect.unit (s := S512x640) ![0, 0] S512x640.size inb_S512x640_S512x640_0_0

/-! ### The second transfers: planes 2 and 3 with the neighbour's added -/
def midA (c : Dev nD) : S2x512x768.Idx → Elt F .bf16 := k0_pay34 (st2 (pA2 I c) (pA3 I c)) (rd rA42.toLoadRect (hiA I (peer 0 c)))
def midB (c : Dev nD) : S2x512x640.Idx → Elt F .bf16 := k0_pay35 (st2 (pB2 I c) (pB3 I c)) (rd rB42.toLoadRect (hiB I (peer 3 c)))
def midC (c : Dev nD) : S2x512x640.Idx → Elt F .bf16 := k0_pay37 (rd rB42.toLoadRect (hiC I (peer 6 c))) (k0_pay36 (st2 (pC2 I c) (pC3 I c)))

/-! Planes 0 and 1 with the first neighbour's added. -/
def loA (c : Dev nD) : S2x512x768.Idx → Elt F .bf16 := k0_pay38 (st2 (pA0 I c) (pA1 I c)) (rd rA40.toLoadRect (hiA I (peer 0 c)))
def loB (c : Dev nD) : S2x512x640.Idx → Elt F .bf16 := k0_pay40 (k0_pay39 (st2 (pB0 I c) (pB1 I c)) (rd rB40.toLoadRect (hiB I (peer 3 c))))
def loC (c : Dev nD) : S2x512x640.Idx → Elt F .bf16 := k0_pay41 (st2 (pC0 I c) (pC1 I c)) (rd rB40.toLoadRect (hiC I (peer 6 c)))

/-- The first and the second plane of two. -/
abbrev fstP {W : ℕ} {α : Type} (X : (St 2 W).Idx → α) : (St 1 W).Idx → α := part (n₁ := 1) 0 (by omega) X
abbrev sndP {W : ℕ} {α : Type} (X : (St 2 W).Idx → α) : (St 1 W).Idx → α := part (n₁ := 1) 1 (by omega) X

/-! ### The third transfers: plane 1 with two neighbours' added -/
def oneA (c : Dev nD) : S1x512x768.Idx → Elt F .bf16 := k0_pay43 (k0_pay42 (sndP (loA I c)) (rd rA21.toLoadRect (midA I (peer 1 c))))
def oneB (c : Dev nD) : S1x512x640.Idx → Elt F .bf16 := k0_pay46 (k0_pay44 (rd rB21.toLoadRect (midB I (peer 4 c)))) (k0_pay45 (sndP (loB I c)))
def oneC (c : Dev nD) : S1x512x640.Idx → Elt F .bf16 := k0_pay48 (k0_pay47 (sndP (loC I c))) (rd rB21.toLoadRect (midC I (peer 7 c)))
/-! The same without the axis of one plane, as they are sent. -/
def sqA (c : Dev nD) : S512x768.Idx → Elt F .bf16 := fun j => oneA I c (Shape.reshapeEquiv squeezes_S1x512x768_S512x768.numel_eq j)
def sqB (c : Dev nD) : S512x640.Idx → Elt F .bf16 := fun j => oneB I c (Shape.reshapeEquiv squeezes_S1x512x640_S512x640.numel_eq j)
def sqC (c : Dev nD) : S512x640.Idx → Elt F .bf16 := fun j => oneC I c (Shape.reshapeEquiv squeezes_S1x512x640_S512x640.numel_eq j)

/-! Plane 0 with two neighbours' added. -/
def zeroA (c : Dev nD) : S1x512x768.Idx → Elt F .bf16 := k0_pay49 (fstP (loA I c)) (rd rA20.toLoadRect (midA I (peer 1 c)))
def zeroB (c : Dev nD) : S1x512x640.Idx → Elt F .bf16 := k0_pay51 (k0_pay50 (fstP (loB I c))) (rd rB20.toLoadRect (midB I (peer 4 c)))
def zeroC (c : Dev nD) : S1x512x640.Idx → Elt F .bf16 := k0_pay52 (fstP (loC I c)) (rd rB20.toLoadRect (midC I (peer 7 c)))

/-- The product of the two scales. -/
abbrev r11 : Rect S1 := Rect.unit (s := S1) ![0] S1.size inb_S1_S1_0
def scl (c : Dev nD) : F .f32 := k0_pay53 (I.a c (r11.point numel1_S1)) (I.b c (r11.point numel1_S1))

/-! ### The result's three runs of columns -/
def outA (c : Dev nD) : S512x768.Idx → Elt F .f32 := k0_pay54 (scl I c) (zeroA I c) (rd rA10.toLoadRect (sqA I (peer 2 c)))
def outB (c : Dev nD) : S512x640.Idx → Elt F .f32 := k0_pay55 (scl I c) (zeroB I c) (rd rB10.toLoadRect (sqB I (peer 5 c)))
def outC (c : Dev nD) : S512x640.Idx → Elt F .f32 := k0_pay56 (scl I c) (zeroC I c) (rd rB10.toLoadRect (sqC I (peer 8 c)))

/-- The index of a block's row of `i` and column `j`. -/
def rowcol {W : ℕ} (i : S512x2048.Idx) (j : Fin W) : (⟨2, ![512, W]⟩ : Shape).Idx := fun | ⟨0, _⟩ => i 0 | ⟨1, _⟩ => j

/-- The result block of device `c`. -/
def outv (c : Dev nD) : S512x2048.Idx → Elt F .f32 := fun i =>
  if h : (i 1).val < 768 then outA I c (rowcol i ⟨(i 1).val, h⟩)
  else if h' : (i 1).val < 1408 then outB I c (rowcol i ⟨(i 1).val - 768, by omega⟩)
  else outC I c (rowcol i ⟨(i 1).val - 1408, by have h2 : (i 1).val < 2048 := (i 1).isLt; omega⟩)

end Cert.KernelIdealProof

end
-- ==== Proof.Proto.lean ====
/-
The protocol: who waits on each semaphore, who signals or copies onto it, and
what each landing hands over.

A device has a barrier cell, nine send cells and nine receive cells, one of
each pair per transfer `k`.
* The barrier cell is waited on once, for three units.  Each of its three
  neighbours signals one; neighbour `j`'s unit hands over that neighbour's
  landing buffers for the transfers that go to it.
* Send cell `k` is waited on once, for the transfer's credit, which the
  device's own transfer pays when it has read its source; it hands the source
  back.
* Receive cell `k` is waited on once, for the same credit, which the
  neighbour's transfer pays; it hands over the landing buffer holding what the
  neighbour sent.
Levels: staging and send cells 0, the barrier 1, receive cells of step `s`
2 + s; a device waiting on a cell owes only cells of higher level.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen Cert.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Cells -/

abbrev barS : Sem sig := (SemArray.scalar (sig.barrier 0 rfl) : Sems sig S_).sem

/-- The send and the receive semaphore of transfer `k`. -/
abbrev sndQ (k : Fin 9) : DmaSem sig := ⟨5 + k.val, by have := k.isLt; show 5 + k.val < 23; omega⟩
abbrev rcvQ (k : Fin 9) : DmaSem sig := ⟨14 + k.val, by have := k.isLt; show 14 + k.val < 23; omega⟩

abbrev barCell (c : Dev nD) : GSem nD τ sig := ((c : Thread nD τ), .reg barS)
abbrev sndCell (k : Fin 9) (c : Dev nD) : GSem nD τ sig := ((c : Thread nD τ), .dma (sndQ k))
abbrev rcvCell (k : Fin 9) (c : Dev nD) : GSem nD τ sig := ((c : Thread nD τ), .dma (rcvQ k))

/-- What a semaphore is for. -/
inductive Role where
  | bar
  | snd (k : Fin 9)
  | rcv (k : Fin 9)
  | other

/-- The use each semaphore has. -/
def role : SemLoc sig → Role
  | .reg s => if s = barS then .bar else .other
  | .dma q => if h : q.val < 5 then .other else if h' : q.val < 14 then .snd ⟨q.val - 5, by omega⟩
      else .rcv ⟨q.val - 14, by have h2 : q.val < 23 := q.isLt; omega⟩

/-- The barrier semaphore has the barrier's role. -/
theorem role_bar : role (.reg barS) = .bar := rfl
/-- Transfer `k`'s send semaphore has its role. -/
theorem role_snd (k : Fin 9) : role (.dma (sndQ k)) = .snd k := by fin_cases k <;> rfl
/-- Transfer `k`'s receive semaphore has its role. -/
theorem role_rcv (k : Fin 9) : role (.dma (rcvQ k)) = .rcv k := by fin_cases k <;> rfl

/-! ## The buffers transfers land in, and what they are sent from -/

abbrev acA : Memref sig .tc .vmem S8x512x768 .bf16 := Memref.whole cc0_scratch0
abbrev acB : Memref sig .tc .vmem S8x512x640 .bf16 := Memref.whole cc0_scratch1
abbrev acC : Memref sig .tc .vmem S8x512x640 .bf16 := Memref.whole cc0_scratch2

abbrev qA44 : Rect S8x512x768 := Rect.unit (s := S8x512x768) ![4, 0, 0] S4x512x768.size inb_S8x512x768_S4x512x768_4_0_0
abbrev qA22 : Rect S8x512x768 := Rect.unit (s := S8x512x768) ![2, 0, 0] S2x512x768.size inb_S8x512x768_S2x512x768_2_0_0
abbrev qA11 : Rect S8x512x768 := Rect.unit (s := S8x512x768) ![1, 0, 0] S1x512x768.size inb_S8x512x768_S1x512x768_1_0_0
abbrev qB44 : Rect S8x512x640 := Rect.unit (s := S8x512x640) ![4, 0, 0] S4x512x640.size inb_S8x512x640_S4x512x640_4_0_0
abbrev qB22 : Rect S8x512x640 := Rect.unit (s := S8x512x640) ![2, 0, 0] S2x512x640.size inb_S8x512x640_S2x512x640_2_0_0
abbrev qB11 : Rect S8x512x640 := Rect.unit (s := S8x512x640) ![1, 0, 0] S1x512x640.size inb_S8x512x640_S1x512x640_1_0_0

abbrev src0 : Memref sig .tc .vmem S4x512x768 .bf16 := acA.slice qA44 (fun _ => rfl)
abbrev src1 : Memref sig .tc .vmem S2x512x768 .bf16 := acA.slice qA22 (fun _ => rfl)
abbrev src2 : Memref sig .tc .vmem S512x768 .bf16 := (acA.slice qA11 (fun _ => rfl) : Memref sig .tc .vmem S1x512x768 .bf16).squeeze S512x768 squeezes_S1x512x768_S512x768
abbrev src3 : Memref sig .tc .vmem S4x512x640 .bf16 := acB.slice qB44 (fun _ => rfl)
abbrev src4 : Memref sig .tc .vmem S2x512x640 .bf16 := acB.slice qB22 (fun _ => rfl)
abbrev src5 : Memref sig .tc .vmem S512x640 .bf16 := (acB.slice qB11 (fun _ => rfl) : Memref sig .tc .vmem S1x512x640 .bf16).squeeze S512x640 squeezes_S1x512x640_S512x640
abbrev src6 : Memref sig .tc .vmem S4x512x640 .bf16 := acC.slice qB44 (fun _ => rfl)
abbrev src7 : Memref sig .tc .vmem S2x512x640 .bf16 := acC.slice qB22 (fun _ => rfl)
abbrev src8 : Memref sig .tc .vmem S512x640 .bf16 := (acC.slice qB11 (fun _ => rfl) : Memref sig .tc .vmem S1x512x640 .bf16).squeeze S512x640 squeezes_S1x512x640_S512x640

abbrev dst0 : Memref sig .tc .vmem S4x512x768 .bf16 := Memref.whole cc0_scratch3
abbrev dst1 : Memref sig .tc .vmem S2x512x768 .bf16 := Memref.whole cc0_scratch6
abbrev dst2 : Memref sig .tc .vmem S512x768 .bf16 := Memref.whole cc0_scratch9
abbrev dst3 : Memref sig .tc .vmem S4x512x640 .bf16 := Memref.whole cc0_scratch4
abbrev dst4 : Memref sig .tc .vmem S2x512x640 .bf16 := Memref.whole cc0_scratch7
abbrev dst5 : Memref sig .tc .vmem S512x640 .bf16 := Memref.whole cc0_scratch10
abbrev dst6 : Memref sig .tc .vmem S4x512x640 .bf16 := Memref.whole cc0_scratch5
abbrev dst7 : Memref sig .tc .vmem S2x512x640 .bf16 := Memref.whole cc0_scratch8
abbrev dst8 : Memref sig .tc .vmem S512x640 .bf16 := Memref.whole cc0_scratch11

/-- The credit of transfer `k`. -/
def N : Fin 9 → ℕ
  | 0 => dst0.view.dmaCredit | 1 => dst1.view.dmaCredit | 2 => dst2.view.dmaCredit
  | 3 => dst3.view.dmaCredit | 4 => dst4.view.dmaCredit | 5 => dst5.view.dmaCredit
  | 6 => dst6.view.dmaCredit | 7 => dst7.view.dmaCredit | 8 => dst8.view.dmaCredit

/-- Every transfer moves something. -/
theorem N_pos (k : Fin 9) : 0 < N k := by
  fin_cases k <;> exact View.dmaCredit_pos _ (by decide)

variable (I : Inp F)

/-- Device `c`'s landing buffer of transfer `k`, at some contents. -/
def landAny (k : Fin 9) (c : Dev nD) : sProp 𝕄 := match k with
  | 0 => any (c : Thread nD τ) dst0 fullShare | 1 => any (c : Thread nD τ) dst1 fullShare | 2 => any (c : Thread nD τ) dst2 fullShare
  | 3 => any (c : Thread nD τ) dst3 fullShare | 4 => any (c : Thread nD τ) dst4 fullShare | 5 => any (c : Thread nD τ) dst5 fullShare
  | 6 => any (c : Thread nD τ) dst6 fullShare | 7 => any (c : Thread nD τ) dst7 fullShare | 8 => any (c : Thread nD τ) dst8 fullShare

/-- Device `c`'s source of transfer `k`, at some contents. -/
def srcAny (k : Fin 9) (c : Dev nD) : sProp 𝕄 := match k with
  | 0 => any (c : Thread nD τ) src0 fullShare | 1 => any (c : Thread nD τ) src1 fullShare | 2 => any (c : Thread nD τ) src2 fullShare
  | 3 => any (c : Thread nD τ) src3 fullShare | 4 => any (c : Thread nD τ) src4 fullShare | 5 => any (c : Thread nD τ) src5 fullShare
  | 6 => any (c : Thread nD τ) src6 fullShare | 7 => any (c : Thread nD τ) src7 fullShare | 8 => any (c : Thread nD τ) src8 fullShare

/-- Device `c`'s landing buffer of transfer `k` holding what its neighbour sent. -/
def landed (k : Fin 9) (c : Dev nD) : sProp 𝕄 := match k with
  | 0 => owns (c : Thread nD τ) dst0 fullShare (hiA I (peer 0 c))
  | 1 => owns (c : Thread nD τ) dst1 fullShare (midA I (peer 1 c))
  | 2 => owns (c : Thread nD τ) dst2 fullShare (sqA I (peer 2 c))
  | 3 => owns (c : Thread nD τ) dst3 fullShare (hiB I (peer 3 c))
  | 4 => owns (c : Thread nD τ) dst4 fullShare (midB I (peer 4 c))
  | 5 => owns (c : Thread nD τ) dst5 fullShare (sqB I (peer 5 c))
  | 6 => owns (c : Thread nD τ) dst6 fullShare (hiC I (peer 6 c))
  | 7 => owns (c : Thread nD τ) dst7 fullShare (midC I (peer 7 c))
  | 8 => owns (c : Thread nD τ) dst8 fullShare (sqC I (peer 8 c))

omit [FloatOps F] in
instance landAny_storable (k : Fin 9) (c : Dev nD) : BI.Storable (upEmb : UEmb _ 𝕄) (landAny (F := F) k c) := by
  fin_cases k <;> (dsimp only [landAny]; infer_instance)
omit [FloatOps F] in
instance srcAny_storable (k : Fin 9) (c : Dev nD) : BI.Storable (upEmb : UEmb _ 𝕄) (srcAny (F := F) k c) := by
  fin_cases k <;> (dsimp only [srcAny]; infer_instance)
instance landed_storable (k : Fin 9) (c : Dev nD) : BI.Storable (upEmb : UEmb _ 𝕄) (landed I k c) := by
  fin_cases k <;> (dsimp only [landed]; infer_instance)

/-- What neighbour `j`, the device `d`, hands over with its barrier unit: its landing buffers for the transfers to it. -/
def barPay (j : Fin 3) (d : Dev nD) : sProp 𝕄 := match j with
  | 0 => iprop(landAny 0 d ∗ landAny 5 d ∗ landAny 7 d)
  | 1 => iprop(landAny 1 d ∗ landAny 3 d ∗ landAny 8 d)
  | 2 => iprop(landAny 2 d ∗ landAny 4 d ∗ landAny 6 d)

omit [FloatOps F] in
instance barPay_storable (j : Fin 3) (d : Dev nD) : BI.Storable (upEmb : UEmb _ 𝕄) (barPay (F := F) j d) := by
  fin_cases j <;> (dsimp only [barPay]; infer_instance)

/-! ## The schedule -/

/-- The duties of a cell, their amounts and what they hand over, by the cell's use. -/
def dutiesOf : Role → Finset (Fin 3)
  | .bar => Finset.univ | .snd _ => {0} | .rcv _ => {0} | .other => ∅
/-- How much a duty of each role pays. -/
def amountOf : Role → ℕ
  | .bar => 1 | .snd k => N k | .rcv k => N k | .other => 1
/-- What a duty of each role hands over. -/
def payOf (c : Dev nD) (j : Fin 3) : Role → sProp 𝕄
  | .bar => barPay j (px j c) | .snd k => srcAny k c | .rcv k => landed I k c | .other => iprop(emp)

/-- One round. -/
def Rd : Rounds.Schedule (GSem nD τ sig) (Fin 3) 𝕄 where
  duties g r := if r = 0 ∧ g.1.2 = .tc then dutiesOf (role g.2) else ∅
  unitless _ := False
  amount g _ _ := amountOf (role g.2)
  payload g _ d := payOf I g.1.1 d (role g.2)
  amount_pos g _ _ _ := by
    cases h : role g.2
    · exact Nat.one_pos
    · exact N_pos _
    · exact N_pos _
    · exact Nat.one_pos

instance Rd_payload_storable (g : GSem nD τ sig) (r : ℕ) (d : Fin 3) :
    BI.Storable (upEmb : UEmb _ 𝕄) ((Rd (F := F) I).payload g r d) := by
  show BI.Storable upEmb (payOf I g.1.1 d (role g.2))
  cases role g.2 <;> (dsimp only [payOf]; infer_instance)

section Tables
variable (c : Dev nD) (k : Fin 9)

/-- The duties of the barrier cell. -/
theorem duties_bar : (Rd I).duties (barCell c) 0 = Finset.univ := by
  show (if (0 : ℕ) = 0 ∧ (c : Thread nD τ).2 = .tc then dutiesOf (role (.reg barS)) else ∅) = _
  rw [if_pos ⟨rfl, rfl⟩]; rfl
/-- The duties of a transfer's send cell. -/
theorem duties_snd : (Rd I).duties (sndCell k c) 0 = {0} := by
  show (if (0 : ℕ) = 0 ∧ (c : Thread nD τ).2 = .tc then dutiesOf (role (.dma (sndQ k))) else ∅) = _
  rw [if_pos ⟨rfl, rfl⟩, role_snd]; rfl
/-- The duties of a transfer's receive cell. -/
theorem duties_rcv : (Rd I).duties (rcvCell k c) 0 = {0} := by
  show (if (0 : ℕ) = 0 ∧ (c : Thread nD τ).2 = .tc then dutiesOf (role (.dma (rcvQ k))) else ∅) = _
  rw [if_pos ⟨rfl, rfl⟩, role_rcv]; rfl
/-- No cell has duties after the first round. -/
theorem duties_later (g : GSem nD τ sig) : ∀ r, 1 ≤ r → (Rd I).duties g r = ∅ :=
  fun r hr => if_neg fun h => by omega

/-- What a duty of the barrier cell pays. -/
theorem amount_bar (d : Fin 3) : (Rd I).amount (barCell c) 0 d = 1 := rfl
/-- What a duty of a transfer's send cell pays. -/
theorem amount_snd (d : Fin 3) : (Rd I).amount (sndCell k c) 0 d = N k := by
  show amountOf (role (.dma (sndQ k))) = _; rw [role_snd]; rfl
/-- What a duty of a transfer's receive cell pays. -/
theorem amount_rcv (d : Fin 3) : (Rd I).amount (rcvCell k c) 0 d = N k := by
  show amountOf (role (.dma (rcvQ k))) = _; rw [role_rcv]; rfl

/-- What a duty of the barrier cell hands over. -/
theorem payload_bar (d : Fin 3) : (Rd I).payload (barCell c) 0 d = barPay d (px d c) := rfl
/-- What a duty of a transfer's send cell hands over. -/
theorem payload_snd (d : Fin 3) : (Rd I).payload (sndCell k c) 0 d = srcAny k c := by
  show payOf I c d (role (.dma (sndQ k))) = _; rw [role_snd]; rfl
/-- What a duty of a transfer's receive cell hands over. -/
theorem payload_rcv (d : Fin 3) : (Rd I).payload (rcvCell k c) 0 d = landed I k c := by
  show payOf I c d (role (.dma (rcvQ k))) = _; rw [role_rcv]; rfl

/-- What the owner of the barrier cell waits for. -/
theorem expect_bar : (Rd I).expect (barCell c) 0 = 3 := by
  unfold Schedule.expect Schedule.amountOf
  rw [duties_bar, Finset.sum_congr rfl fun d _ => amount_bar I c d, Finset.sum_const, Finset.card_univ, Fintype.card_fin, smul_eq_mul]
/-- What the owner of a transfer's send cell waits for. -/
theorem expect_snd : (Rd I).expect (sndCell k c) 0 = N k := by
  unfold Schedule.expect Schedule.amountOf; rw [duties_snd, Finset.sum_singleton, amount_snd]
/-- What the owner of a transfer's receive cell waits for. -/
theorem expect_rcv : (Rd I).expect (rcvCell k c) 0 = N k := by
  unfold Schedule.expect Schedule.amountOf; rw [duties_rcv, Finset.sum_singleton, amount_rcv]

/-- What a wait for a whole round hands over. -/
theorem rest_bar : bigSep ((Rd I).duties (barCell c) 0 \ ∅) (fun d => (Rd I).payload (barCell c) 0 d)
    = iprop(barPay 0 (px 0 c) ∗ barPay 1 (px 1 c) ∗ barPay 2 (px 2 c)) := by
  rw [Finset.sdiff_empty, duties_bar, bigSep_univ_eq_bigSepL [0, 1, 2] (by decide) (by decide), bigSepL_cons_cons, bigSepL_cons_cons,
    bigSepL_singleton]
  rfl
/-- All that a transfer's send cell hands its owner. -/
theorem rest_snd : bigSep ((Rd I).duties (sndCell k c) 0 \ ∅) (fun d => (Rd I).payload (sndCell k c) 0 d) = srcAny k c := by
  rw [Finset.sdiff_empty, duties_snd, bigSep_singleton, payload_snd]
/-- All that a transfer's receive cell hands its owner. -/
theorem rest_rcv : bigSep ((Rd I).duties (rcvCell k c) 0 \ ∅) (fun d => (Rd I).payload (rcvCell k c) 0 d) = landed I k c := by
  rw [Finset.sdiff_empty, duties_rcv, bigSep_singleton, payload_rcv]

end Tables

/-! ## What a device owes, and the levels -/

/-- The transfers still to be sent, the next one first, as a debt. -/
def owe (c : Dev nD) : List (Fin 9) → CellTallies nD τ sig Unit
  | [] => 0
  | k :: l => owe c l + tallyAt (rcvCell k (peer k c)) () (N k)

/-- The order the transfers are sent in. -/
abbrev ord : List (Fin 9) := [0, 3, 6, 1, 4, 7, 2, 5, 8]

/-- What a device owes after two signals: the transfers and the third signal. -/
def O₂ (c : Dev nD) : CellTallies nD τ sig Unit := owe c ord + tallyAt (barCell (px 2 c)) () 1
/-- What it owes after the first signal. -/
def O₁ (c : Dev nD) : CellTallies nD τ sig Unit := O₂ c + tallyAt (barCell (px 1 c)) () 1
/-- What it owes from the start. -/
def O₀ (c : Dev nD) : CellTallies nD τ sig Unit := O₁ c + tallyAt (barCell (px 0 c)) () 1

/-- Where units are counted: on the cells of a device's own thread. -/
def L (g : GSem nD τ sig) : Finset Unit := if g.1.2 = .tc then {()} else ∅

/-- The level of a cell by its use. -/
def lvOf : Role → ℕ
  | .bar => 1 | .snd _ => 0 | .rcv k => 2 + k.val % 3 | .other => 0
/-- The level of a cell. -/
def lv (g : GSem nD τ sig) (_ : Unit) : ℕ := lvOf (role g.2)

/-- On cells of another thread nothing is counted. -/
theorem L_of_ne (g : GSem nD τ sig) (h : g.1.2 ≠ .tc) : L g = ∅ := if_neg h
/-- Every cell of a device's own thread is counted. -/
theorem L_tc (c : Dev nD) (sm : SemLoc sig) : L ((c : Thread nD τ), sm) = {()} := if_pos rfl

/-- A receive cell's level grows with its step. -/
theorem lv_rcv (k : Fin 9) (c : Dev nD) : lv (rcvCell k c) () = 2 + k.val % 3 := by unfold lv; rw [role_rcv]; rfl

/-- What is owed of transfers is owed to their receive cells. -/
theorem owe_pos {c : Dev nD} {l : List (Fin 9)} {g : GSem nD τ sig} {u : Unit} (h : 0 < owe c l g u) :
    ∃ k ∈ l, g = rcvCell k (peer k c) := by
  induction l with
  | nil => exact absurd h (Nat.lt_irrefl 0)
  | cons k l ih =>
    unfold owe at h
    rw [Pi.add_apply, Finsupp.add_apply, tallyAt_apply] at h
    by_cases hk : g = rcvCell k (peer k c) ∧ u = ()
    · exact ⟨k, List.mem_cons_self, hk.1⟩
    · rw [if_neg hk] at h
      obtain ⟨k', hk', e⟩ := ih (by omega)
      exact ⟨k', List.mem_cons_of_mem _ hk', e⟩

/-- What a device owes, it owes to cells of its neighbours: to receive cells and barriers. -/
theorem O₀_pos {c : Dev nD} {g : GSem nD τ sig} {u : Unit} (h : 0 < O₀ c g u) :
    (∃ k, g = rcvCell k (peer k c)) ∨ ∃ j, g = barCell (px j c) := by
  unfold O₀ O₁ O₂ at h
  rw [Pi.add_apply, Finsupp.add_apply, Pi.add_apply, Finsupp.add_apply, Pi.add_apply, Finsupp.add_apply, tallyAt_apply, tallyAt_apply, tallyAt_apply] at h
  by_contra hn
  rw [not_or] at hn
  rw [if_neg (fun h' => hn.2 ⟨2, h'.1⟩), if_neg (fun h' => hn.2 ⟨1, h'.1⟩), if_neg (fun h' => hn.2 ⟨0, h'.1⟩)] at h
  obtain ⟨k, -, e⟩ := owe_pos (c := c) (l := ord) (g := g) (u := u) (by omega)
  exact hn.1 ⟨k, e⟩

omit [FloatOps F] in
/-- A device that owes only transfers may wait on a cell of its own below all their levels. -/
theorem mayWait (c : Dev nD) (sm : SemLoc sig) (l : List (Fin 9)) (h : ∀ k ∈ l, lvOf (role sm) < 2 + k.val % 3) :
    (levAts L lv : sProp 𝕄) ⊢ MayWait (c : Thread nD τ) sm () (owe c l) :=
  MayOwe.of_cut (L := L) (lev := lv) (lvOf (role sm)) (fun p hp => by rw [Finset.mem_singleton.mp hp, L_tc]; exact Finset.mem_singleton_self _)
    (fun g u hg => by obtain ⟨k, -, rfl⟩ := owe_pos hg; exact Finset.mem_singleton_self _)
    (fun p hp => by rw [Finset.mem_singleton.mp hp]; exact le_rfl)
    (fun g u hg => by obtain ⟨k, hk, rfl⟩ := owe_pos hg; rw [lv_rcv]; exact h k hk)

omit [FloatOps F] in
/-- At the launch and at the end a device may wait on its staging semaphores. -/
theorem mayWait_stage (c : Dev nD) (q : DmaSem sig) (hq : role (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨j, rfl⟩ <;> exact Finset.mem_singleton_self _)
      (fun p hp => by rw [Finset.mem_singleton.mp hp]; show lvOf (role (.dma q)) ≤ 0; rw [hq]; exact le_rfl)
      (fun g u hg => by
        rcases O₀_pos hg with ⟨k, rfl⟩ | ⟨j, rfl⟩
        · rw [lv_rcv]; omega
        · exact Nat.one_pos)
  · rw [MayWait_zero]; iintro -; iempintro

/-! ## The cells of all devices, and what is known of them -/

/-- A device's nineteen cells. -/
def csem : Fin 19 → SemLoc sig := fun i => if h : i.val = 0 then .reg barS else .dma ⟨i.val + 4, by have := i.isLt; show i.val + 4 < 23; omega⟩
abbrev kcell (ck : Dev nD × Fin 19) : GSem nD τ sig := ((ck.1 : Thread nD τ), csem ck.2)

/-- Every cell's invariant, and that it is at round 0 at least. -/
def records (K : Dev nD × Fin 19 → ℕ) : sProp 𝕄 :=
  iprop((bigSep Finset.univ fun ck : Dev nD × Fin 19 => cellInv ER (Rd I) (K ck) (kcell ck))
    ∗ bigSep Finset.univ fun ck : Dev nD × Fin 19 => reached ER (kcell ck) 0)

instance records_persistent (K : Dev nD × Fin 19 → ℕ) : BI.Persistent (records I K) := by unfold records; infer_instance

/-- The index of a send cell and of a receive cell. -/
abbrev iS (k : Fin 9) : Fin 19 := ⟨1 + k.val, by omega⟩
abbrev iR (k : Fin 9) : Fin 19 := ⟨10 + k.val, by omega⟩

/-- Cell 0 of a device is the barrier. -/
theorem kcell_bar (c : Dev nD) : kcell (c, 0) = barCell c := rfl
/-- Cells 1 to 9 are the send cells. -/
theorem kcell_snd (k : Fin 9) (c : Dev nD) : kcell (c, iS k) = sndCell k c := by fin_cases k <;> rfl
/-- Cells 10 to 18 are the receive cells. -/
theorem kcell_rcv (k : Fin 9) (c : Dev nD) : kcell (c, iR k) = rcvCell k c := by fin_cases k <;> rfl

/-- The records hold every cell's invariant. -/
theorem records_inv (K : Dev nD × Fin 19 → ℕ) (ck : Dev nD × Fin 19) : records I K ⊢ cellInv ER (Rd I) (K ck) (kcell ck) := by
  unfold records
  exact sep_elim_left.trans (bigSep_elim (Φ := fun ck : Dev nD × Fin 19 => (cellInv ER (Rd I) (K ck) (kcell ck) : sProp 𝕄)) (Finset.mem_univ ck))
/-- The records say that every cell has reached its first round. -/
theorem records_reached (K : Dev nD × Fin 19 → ℕ) (ck : Dev nD × Fin 19) : records I K ⊢ reached ER (kcell ck) 0 := by
  unfold records
  exact sep_elim_right.trans (bigSep_elim (Φ := fun ck : Dev nD × Fin 19 => (reached ER (kcell ck) 0 : sProp 𝕄)) (Finset.mem_univ ck))

end Cert.KernelIdealProof

end
-- ==== Proof.Wrap.lean ====
/-
The protocol's steps: a barrier signal, the barrier wait, a transfer, and the
two waits of a transfer, each as one rule.
-/
module

public import proofs.«01_k».proof.Proof.Proto

@[expose] public section

noncomputable section

namespace Cert.KernelIdealProof

open Cert.KernelIdeal Cert.KernelIdeal.Gen Cert.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × Fin 19 → ℕ)

/-- What every step may use: the cells' invariants and rounds, and the levels. -/
def env : sProp 𝕄 := iprop(records I K ∗ levAts L lv)

instance env_persistent : BI.Persistent (env I K) := by unfold env; infer_instance

/-- The surroundings hold the records. -/
theorem env_records : env I K ⊢ records I K := by unfold env; exact sep_elim_left
/-- They hold the levels. -/
theorem env_lev : env I K ⊢ levAts L lv := by unfold env; exact sep_elim_right

/-- They hold every cell's invariant. -/
theorem env_inv (ck : Dev nD × Fin 19) : env I K ⊢ cellInv ER (Rd I) (K ck) (kcell ck) := (env_records I K).trans (records_inv I K ck)
/-- They say that every cell has reached its first round. -/
theorem env_reached (ck : Dev nD × Fin 19) : env I K ⊢ reached ER (kcell ck) 0 := (env_records I K).trans (records_reached I K ck)

/-- They hold the invariant of the barrier cell. -/
theorem inv_bar (c : Dev nD) : env I K ⊢ cellInv ER (Rd I) (K (c, 0)) (barCell c) := env_inv I K (c, 0)
/-- They hold the invariant of a transfer's send cell. -/
theorem inv_snd (k : Fin 9) (c : Dev nD) : env I K ⊢ cellInv ER (Rd I) (K (c, iS k)) (sndCell k c) := by
  rw [← kcell_snd]; exact env_inv I K (c, iS k)
/-- They hold the invariant of a transfer's receive cell. -/
theorem inv_rcv (k : Fin 9) (c : Dev nD) : env I K ⊢ cellInv ER (Rd I) (K (c, iR k)) (rcvCell k c) := by
  rw [← kcell_rcv]; exact env_inv I K (c, iR k)
/-- They say that the barrier cell has reached its first round. -/
theorem reached_bar (c : Dev nD) : env I K ⊢ reached ER (barCell c) 0 := env_reached I K (c, 0)
/-- They say that a transfer's send cell has reached its first round. -/
theorem reached_snd (k : Fin 9) (c : Dev nD) : env I K ⊢ reached ER (sndCell k c) 0 := by
  rw [← kcell_snd]; exact env_reached I K (c, iS k)
/-- They say that a transfer's receive cell has reached its first round. -/
theorem reached_rcv (k : Fin 9) (c : Dev nD) : env I K ⊢ reached ER (rcvCell k c) 0 := by
  rw [← kcell_rcv]; exact env_reached I K (c, iR k)

/-- Device `c` owes the transfers of `l`, having waited on some cells. -/
def Ow (c : Dev nD) (l : List (Fin 9)) : sProp 𝕄 := iprop(∃ W, owes (c : Thread nD τ) (owe c l) W)
/-- The same for a whole debt. -/
def Owed (c : Dev nD) (O : CellTallies nD τ sig Unit) : sProp 𝕄 := iprop(∃ W, owes (c : Thread nD τ) O W)

/-- What transfer `k` of device `c` pays with: the duties of both its cells. -/
def sendKit (k : Fin 9) (c : Dev nD) : sProp 𝕄 :=
  iprop(dutyTok ER (sndCell k c) 0 (0 : Fin 3) ∗ dutyTok ER (rcvCell k (peer k c)) 0 (0 : Fin 3))

/-- What the wait on a cell of `c` for `n` units takes: the credit, and the position before the round. -/
def waitKit (g : GSem nD τ sig) (n : ℕ) : sProp 𝕄 := iprop(cred (tallyAt g () n) ∗ atPos ER g 0 (∅ : Finset (Fin 3)) 0)
/-- The position after the round. -/
def past (g : GSem nD τ sig) : sProp 𝕄 := atPos ER g (0 + 1) (∅ : Finset (Fin 3)) 0

section Steps
variable (c : Dev nD) {α : Type} {Q : α → sProp (MT nD τ sig Unit (Elt F) ℕ UU ℕ)}

/-- A unit signalled to neighbour `j`'s barrier, with this device's landing buffers for the transfers from it. -/
theorem wp_sig (j : Fin 3) (O O' : CellTallies nD τ sig Unit) (hO : O = O' + tallyAt (barCell (px j c)) () 1) (n : Dev nD) (hn : n = px j c)
    {k' : PUnit → Prog (TpuEff nD τ sig (Elt F) Λ₀ .tc) α} :
    iprop(env I K ∗ Owed c O ∗ dutyTok ER (barCell (px j c)) 0 j ∗ barPay j c)
      ⊢ iprop((Owed c O' -∗ wp frame (wpE (defs₀ (F := F)) 𝒱₀ (c : Thread nD τ) none) Set.univ (k' ⟨⟩) Q)
        -∗ wp frame (wpE (defs₀ (F := F)) 𝒱₀ (c : Thread nD τ) none) Set.univ (.op (.semSignal (n : Thread nD τ) barS 1) k') Q) := by
  subst hn
  unfold Owed
  iintro ⟨#He, ⟨%W, HO⟩, Ht, Hp⟩ Hk
  iapply (Rounds.wp_signal 𝒱₀ ER (Rd I) (c : Thread nD τ) none (dst := (px j c : Thread nD τ)) (κ := K (px j c, 0))
      (d := j) (by rw [duties_bar]; exact Finset.mem_univ _) (amount_bar I (px j c) j) () O' hO) $$ [HO Ht Hp]
  · isplitr; · iapply (inv_bar I K (px j c)); iexact He
    isplitl [HO]; · iexact HO
    isplitl [Ht]; · iexact Ht
    isplitl [Hp]; · rw [payload_bar, px_px]; iexact Hp
    iapply (reached_bar I K (px j c)); iexact He
  iintro HO
  iapply Hk; iexists W; iexact HO

/-- The wait for the three units of the device's own barrier. -/
theorem wp_bar {k' : PUnit → Prog (TpuEff nD τ sig (Elt F) Λ₀ .tc) α} :
    iprop(env I K ∗ Owed c (owe c ord) ∗ waitKit (barCell c) 3)
      ⊢ iprop((iprop(Ow c ord ∗ past (barCell c) ∗ barPay 0 (px 0 c) ∗ barPay 1 (px 1 c) ∗ barPay 2 (px 2 c))
          -∗ wp frame (wpE (defs₀ (F := F)) 𝒱₀ (c : Thread nD τ) none) Set.univ (k' ⟨⟩) Q)
        -∗ wp frame (wpE (defs₀ (F := F)) 𝒱₀ (c : Thread nD τ) none) Set.univ (.op (.semWait barS 3) k') Q) := by
  unfold Owed Ow waitKit past
  iintro ⟨#He, ⟨%W, HO⟩, Hc, Hat⟩ Hk
  iapply (Rounds.wp_wait_rest_token 𝒱₀ ER (Rd I) (c : Thread nD τ) none (κ := K (c, 0))
      (wpE_semWait_eq 𝒱₀ (c : Thread nD τ) none Set.univ) (Set.mem_univ _) () (O := owe c ord) (W := W) (R := 0) (m := 0) (T := ∅)
      (by rw [expect_bar])) $$ [HO Hc Hat]
  · isplitr; · iapply (inv_bar I K c); iexact He
    isplitl [Hc]; · iexact Hc
    isplitl [HO]; · iexact HO
    isplitr; · iapply (mayWait c (.reg barS) ord (fun k _ => by rw [role_bar]; show 1 < _; omega)); iapply (env_lev I K); iexact He
    iexact Hat
  iintro ⟨HO, Hat, -, Hp⟩
  ihave Hp := (Entails.of_eq (rest_bar I c)) $$ Hp
  iapply Hk
  isplitl [HO]; · iexists _; iexact HO
  isplitl [Hat]; · iexact Hat
  iexact Hp

/-- Transfer `k`: the source lent to its send cell, the landing buffer, holding what is sent, to the neighbour's receive cell. -/
theorem wp_xfer (k : Fin 9) (l : List (Fin 9)) (n : Dev nD) (hn : n = peer k c) {sh : Shape} (ms md : Memref sig .tc .vmem sh .bf16)
    (X : sh.Idx → Elt F .bf16) {sS sR : DmaSem sig} (hS : sS = sndQ k) (hR : sR = rcvQ k) (hN : md.view.dmaCredit = N k)
    (hsrc : (owns (c : Thread nD τ) ms fullShare X : sProp 𝕄) ⊢ srcAny k c)
    (hland : (landAny k (peer k c) : sProp 𝕄) ⊢ any (peer k c : Thread nD τ) md fullShare)
    (hgot : (owns (peer k c : Thread nD τ) md fullShare X : sProp 𝕄) ⊢ landed I k (peer k c))
    {hsc : md.view.ref.isScScratch = false} {hws : ms.view.WordExact} {hwd : md.view.WordExact}
    {hsem : DmaTarget.Typed .vmem (.dma sR) (.remote (n : Thread nD τ) md (.dma sS) hsc)}
    {k' : PUnit → Prog (TpuEff nD τ sig (Elt F) Λ₀ .tc) α} :
    iprop(env I K ∗ owns (c : Thread nD τ) ms fullShare X ∗ landAny k (peer k c) ∗ sendKit k c ∗ Ow c (k :: l))
      ⊢ iprop((iprop(cred (tallyAt (sndCell k c) () (N k)) ∗ Ow c l)
          -∗ wp frame (wpE (defs₀ (F := F)) 𝒱₀ (c : Thread nD τ) none) Set.univ (k' ⟨⟩) Q)
        -∗ wp frame (wpE (defs₀ (F := F)) 𝒱₀ (c : Thread nD τ) none) Set.univ
            (.op (.enqueueDma ms (.remote (n : Thread nD τ) md (.dma sS) hsc) (.dma sR) hws hwd hsem) k') Q) := by
  subst hn hS hR
  refine .trans (sep_mono_right (sep_mono_right (sep_mono_left hland))) ?_
  rw [show (any (peer k c : Thread nD τ) md fullShare : sProp 𝕄)
    = iprop(∃ Y fd, ⌜md.view.read (Elt F) fd = Y⌝ ∗ (md.view.loc (peer k c : Thread nD τ) ↦[md.view.set]{fullShare} fd)) from rfl]
  rw [show (owns (c : Thread nD τ) ms fullShare X : sProp 𝕄)
    = iprop(∃ fs, ⌜ms.view.read (Elt F) fs = X⌝ ∗ (ms.view.loc (c : Thread nD τ) ↦[ms.view.set]{fullShare} fs)) from rfl]
  unfold Ow sendKit
  iintro ⟨#He, ⟨%fs, %hfs, Hs⟩, ⟨%Y, %fd, -, Hd⟩, ⟨Ht1, Ht2⟩, ⟨%W, HO⟩⟩ Hk
  iapply (Rounds.wp_send_pointsTo 𝒱₀ ER (Rd I) (c : Thread nD τ) none (κ₁ := K (c, iS k)) (κ₂ := K (peer k c, iR k))
    (r₁ := 0) (r₂ := 0) (d₁ := 0) (d₂ := 0) (fs := fs) (fd := fd)
    (by rw [duties_snd]; exact Finset.mem_singleton_self _) (by rw [duties_rcv]; exact Finset.mem_singleton_self _)
    () () (N k) (show md.view.amount (.dma (rcvQ k)) = N k from hN) (amount_snd I c k 0) (amount_rcv I (peer k c) k 0) (owe c l) rfl (W := W)
    (by
      rw [payload_snd]
      refine .trans ?_ hsrc
      unfold owns
      iintro H; iexists fs; isplitr
      · ipureintro; exact hfs
      · iexact H)
    (by
      rw [payload_rcv]
      refine .trans ?_ hgot
      unfold owns
      iintro H; iexists _; isplitr
      · ipureintro; exact (View.read_write_univ (v := md.view) fd _).trans hfs
      · iexact H)) $$ [Hs Hd HO Ht1 Ht2]
  · isplitr; · iapply (inv_snd I K k c); iexact He
    isplitr; · iapply (inv_rcv I K k (peer k c)); iexact He
    isplitl [Hs]; · iexact Hs
    isplitl [Hd]; · iexact Hd
    isplitl [HO]; · iexact HO
    isplitl [Ht1]; · iexact Ht1
    isplitr; · iapply (reached_snd I K k c); iexact He
    isplitl [Ht2]; · iexact Ht2
    iapply (reached_rcv I K k (peer k c)); iexact He
  iintro ⟨Hc, HO⟩
  iapply Hk
  isplitl [Hc]; · iexact Hc
  iexists W; iexact HO

/-- The wait for transfer `k`'s source. -/
theorem wp_waitS (k : Fin 9) (l : List (Fin 9)) {sS : DmaSem sig} (hS : sS = sndQ k) {s s' : Shape} {e e' : EltTy}
    {a : Memref sig .tc .vmem s' e'} {b : Memref sig .tc .vmem s e} (hN : b.view.dmaCredit = N k)
    {ha : a.view.WordExact} {hb : b.view.WordExact} {k' : PUnit → Prog (TpuEff nD τ sig (Elt F) Λ₀ .tc) α} :
    iprop(env I K ∗ Ow c l ∗ waitKit (sndCell k c) (N k))
      ⊢ iprop((iprop(Ow c l ∗ past (sndCell k c) ∗ srcAny k c)
          -∗ wp frame (wpE (defs₀ (F := F)) 𝒱₀ (c : Thread nD τ) none) Set.univ (k' ⟨⟩) Q)
        -∗ wp frame (wpE (defs₀ (F := F)) 𝒱₀ (c : Thread nD τ) none) Set.univ (.op (.waitDma2 sS a b ha hb) k') Q) := by
  subst hS
  unfold Ow waitKit past
  rw [← hN]
  iintro ⟨#He, ⟨%W, HO⟩, Hc, Hat⟩ Hk
  iapply (Rounds.wp_wait_rest_token 𝒱₀ ER (Rd I) (c : Thread nD τ) none (κ := K (c, iS k))
      (wpE_waitDma2_eq 𝒱₀ (c : Thread nD τ) none Set.univ) (Set.mem_univ _) () (O := owe c l) (W := W) (R := 0) (m := 0) (T := ∅)
      (by rw [expect_snd, hN, zero_add])) $$ [HO Hc Hat]
  · isplitr; · iapply (inv_snd I K k c); iexact He
    isplitl [Hc]; · iexact Hc
    isplitl [HO]; · iexact HO
    isplitr
    · iapply (mayWait c (.dma (sndQ k)) l (fun k _ => by rw [role_snd]; show 0 < _; omega)); iapply (env_lev I K); iexact He
    iexact Hat
  iintro ⟨HO, Hat, -, Hp⟩
  ihave Hp := (Entails.of_eq (rest_snd I c k)) $$ Hp
  iapply Hk
  isplitl [HO]; · iexists _; iexact HO
  isplitl [Hat]; · iexact Hat
  iexact Hp

/-- The wait for what transfer `k` lands. -/
theorem wp_waitR (k : Fin 9) (l : List (Fin 9)) (hl : ∀ k' ∈ l, k.val % 3 < k'.val % 3) {sR : DmaSem sig} (hR : sR = rcvQ k)
    {s s' : Shape} {e e' : EltTy}
    {a : Memref sig .tc .vmem s' e'} {b : Memref sig .tc .vmem s e} (hN : b.view.dmaCredit = N k)
    {ha : a.view.WordExact} {hb : b.view.WordExact} {k' : PUnit → Prog (TpuEff nD τ sig (Elt F) Λ₀ .tc) α} :
    iprop(env I K ∗ Ow c l ∗ waitKit (rcvCell k c) (N k))
      ⊢ iprop((iprop(Ow c l ∗ past (rcvCell k c) ∗ landed I k c)
          -∗ wp frame (wpE (defs₀ (F := F)) 𝒱₀ (c : Thread nD τ) none) Set.univ (k' ⟨⟩) Q)
        -∗ wp frame (wpE (defs₀ (F := F)) 𝒱₀ (c : Thread nD τ) none) Set.univ (.op (.waitDma2 sR a b ha hb) k') Q) := by
  subst hR
  unfold Ow waitKit past
  rw [← hN]
  iintro ⟨#He, ⟨%W, HO⟩, Hc, Hat⟩ Hk
  iapply (Rounds.wp_wait_rest_token 𝒱₀ ER (Rd I) (c : Thread nD τ) none (κ := K (c, iR k))
      (wpE_waitDma2_eq 𝒱₀ (c : Thread nD τ) none Set.univ) (Set.mem_univ _) () (O := owe c l) (W := W) (R := 0) (m := 0) (T := ∅)
      (by rw [expect_rcv, hN, zero_add])) $$ [HO Hc Hat]
  · isplitr; · iapply (inv_rcv I K k c); iexact He
    isplitl [Hc]; · iexact Hc
    isplitl [HO]; · iexact HO
    isplitr
    · iapply (mayWait c (.dma (rcvQ k)) l (fun k' hk' => by rw [role_rcv]; show 2 + k.val % 3 < _; have := hl k' hk'; omega))
      iapply (env_lev I K); iexact He
    iexact Hat
  iintro ⟨HO, Hat, -, Hp⟩
  ihave Hp := (Entails.of_eq (rest_rcv I c k)) $$ Hp
  iapply Hk
  isplitl [HO]; · iexists _; iexact HO
  isplitl [Hat]; · iexact Hat
  iexact Hp

end Steps

end Cert.KernelIdealProof

end
-- ==== Proof.Parts.lean ====
/-
The kernel's printed parts on its own buffers, and how a device's pieces of
its buffers are written down.
-/
module

public import proofs.«01_k».proof.Proof.Wrap

@[expose] public section

set_option maxRecDepth 16384

noncomputable section

namespace Cert.KernelIdealProof

open Cert.KernelIdeal Cert.KernelIdeal.Gen Cert.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Printed part 1 on the kernel's buffers. -/
abbrev part1 := k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13
/-- Part 1 is its sequence of memory operations. -/
theorem part1_eq : part1 (F := F) = k0_part1_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 := by
  unfold part1; rw [k0_part1_eq_skeleton]
/-- Printed part 2 on the kernel's buffers. -/
abbrev part2 := k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13
/-- Part 2 is its sequence of memory operations. -/
theorem part2_eq : part2 (F := F) = k0_part2_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 := by
  unfold part2; rw [k0_part2_eq_skeleton]
/-- Printed part 3 on the kernel's buffers. -/
abbrev part3 := k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13
/-- Part 3 is its sequence of memory operations. -/
theorem part3_eq : part3 (F := F) = k0_part3_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 := by
  unfold part3; rw [k0_part3_eq_skeleton]
/-- Printed part 4 on the kernel's buffers. -/
abbrev part4 := k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13
/-- Part 4 is its sequence of memory operations. -/
theorem part4_eq : part4 (F := F) = k0_part4_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 := by
  unfold part4; rw [k0_part4_eq_skeleton]
/-- Printed part 5 on the kernel's buffers. -/
abbrev part5 := k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13
/-- Part 5 is its sequence of memory operations. -/
theorem part5_eq : part5 (F := F) = k0_part5_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 := by
  unfold part5; rw [k0_part5_eq_skeleton]
/-- Printed part 6 on the kernel's buffers. -/
abbrev part6 := k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13
/-- Part 6 is its sequence of memory operations. -/
theorem part6_eq : part6 (F := F) = k0_part6_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 := by
  unfold part6; rw [k0_part6_eq_skeleton]
/-- Printed part 7 on the kernel's buffers. -/
abbrev part7 := k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13
/-- Part 7 is its sequence of memory operations. -/
theorem part7_eq : part7 (F := F) = k0_part7_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 := by
  unfold part7; rw [k0_part7_eq_skeleton]
/-- Printed part 8 on the kernel's buffers. -/
abbrev part8 := k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13
/-- Part 8 is its sequence of memory operations. -/
theorem part8_eq : part8 (F := F) = k0_part8_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 := by
  unfold part8; rw [k0_part8_eq_skeleton]
/-- Printed part 9 on the kernel's buffers. -/
abbrev part9 := k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13
/-- Part 9 is its sequence of memory operations. -/
theorem part9_eq : part9 (F := F) = k0_part9_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 := by
  unfold part9; rw [k0_part9_eq_skeleton]
/-- Printed part 10 on the kernel's buffers. -/
abbrev part10 := k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13
/-- Part 10 is its sequence of memory operations. -/
theorem part10_eq : part10 (F := F) = k0_part10_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 := by
  unfold part10; rw [k0_part10_eq_skeleton]
/-- Printed part 11 on the kernel's buffers. -/
abbrev part11 := k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13
/-- Part 11 is its sequence of memory operations. -/
theorem part11_eq : part11 (F := F) = k0_part11_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 := by
  unfold part11; rw [k0_part11_eq_skeleton]
/-- Printed part 12 on the kernel's buffers. -/
abbrev part12 := k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13
/-- Part 12 is its sequence of memory operations. -/
theorem part12_eq : part12 (F := F) = k0_part12_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 := by
  unfold part12; rw [k0_part12_eq_skeleton]
/-- Printed part 13 on the kernel's buffers. -/
abbrev part13 := k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13
/-- Part 13 is its sequence of memory operations. -/
theorem part13_eq : part13 (F := F) = k0_part13_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 := by
  unfold part13; rw [k0_part13_eq_skeleton]
/-- Printed part 14 on the kernel's buffers. -/
abbrev part14 := k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13
/-- Part 14 is its sequence of memory operations. -/
theorem part14_eq : part14 (F := F) = k0_part14_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 := by
  unfold part14; rw [k0_part14_eq_skeleton]
/-- Printed part 15 on the kernel's buffers. -/
abbrev part15 := k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13
/-- Part 15 is its sequence of memory operations. -/
theorem part15_eq : part15 (F := F) = k0_part15_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 := by
  unfold part15; rw [k0_part15_eq_skeleton]
/-- Printed part 16 on the kernel's buffers. -/
abbrev part16 := k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13
/-- Part 16 is its sequence of memory operations. -/
theorem part16_eq : part16 (F := F) = k0_part16_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 := by
  unfold part16; rw [k0_part16_eq_skeleton]
/-- Printed part 17 on the kernel's buffers. -/
abbrev part17 := k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13
/-- Part 17 is its sequence of memory operations. -/
theorem part17_eq : part17 (F := F) = k0_part17_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 := by
  unfold part17; rw [k0_part17_eq_skeleton]
/-- Printed part 18 on the kernel's buffers. -/
abbrev part18 := k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13
/-- Part 18 is its sequence of memory operations. -/
theorem part18_eq : part18 (F := F) = k0_part18_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 := by
  unfold part18; rw [k0_part18_eq_skeleton]
/-- Printed part 19 on the kernel's buffers. -/
abbrev part19 := k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13
/-- Part 19 is its sequence of memory operations. -/
theorem part19_eq : part19 (F := F) = k0_part19_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 := by
  unfold part19; rw [k0_part19_eq_skeleton]
/-- Printed part 20 on the kernel's buffers. -/
abbrev part20 := k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13
/-- Part 20 is its sequence of memory operations. -/
theorem part20_eq : part20 (F := F) = k0_part20_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 := by
  unfold part20; rw [k0_part20_eq_skeleton]

/-! ## Devices addressed -/
/-- The device signalled by signal 1 is neighbour 0. -/
theorem dev1 (c : Dev nD) : (⟨k0_dev1 c, k0_dev1_lt c⟩ : Dev nD) = px 0 c := by revert c; decide +kernel
/-- The device signalled by signal 2 is neighbour 1. -/
theorem dev2 (c : Dev nD) : (⟨k0_dev2 c, k0_dev2_lt c⟩ : Dev nD) = px 1 c := by revert c; decide +kernel
/-- The device signalled by signal 3 is neighbour 2. -/
theorem dev3 (c : Dev nD) : (⟨k0_dev3 c, k0_dev3_lt c⟩ : Dev nD) = px 2 c := by revert c; decide +kernel
/-- The device that transfer 0 is sent to. -/
theorem dev4 (c : Dev nD) : (⟨k0_dev4 c, k0_dev4_lt c⟩ : Dev nD) = peer 0 c := by revert c; decide +kernel
/-- The device that transfer 3 is sent to. -/
theorem dev5 (c : Dev nD) : (⟨k0_dev5 c, k0_dev5_lt c⟩ : Dev nD) = peer 3 c := by revert c; decide +kernel
/-- The device that transfer 6 is sent to. -/
theorem dev6 (c : Dev nD) : (⟨k0_dev6 c, k0_dev6_lt c⟩ : Dev nD) = peer 6 c := by revert c; decide +kernel
/-- The device that transfer 1 is sent to. -/
theorem dev7 (c : Dev nD) : (⟨k0_dev7 c, k0_dev7_lt c⟩ : Dev nD) = peer 1 c := by revert c; decide +kernel
/-- The device that transfer 4 is sent to. -/
theorem dev8 (c : Dev nD) : (⟨k0_dev8 c, k0_dev8_lt c⟩ : Dev nD) = peer 4 c := by revert c; decide +kernel
/-- The device that transfer 7 is sent to. -/
theorem dev9 (c : Dev nD) : (⟨k0_dev9 c, k0_dev9_lt c⟩ : Dev nD) = peer 7 c := by revert c; decide +kernel
/-- The device that transfer 2 is sent to. -/
theorem dev10 (c : Dev nD) : (⟨k0_dev10 c, k0_dev10_lt c⟩ : Dev nD) = peer 2 c := by revert c; decide +kernel
/-- The device that transfer 5 is sent to. -/
theorem dev11 (c : Dev nD) : (⟨k0_dev11 c, k0_dev11_lt c⟩ : Dev nD) = peer 5 c := by revert c; decide +kernel
/-- The device that transfer 8 is sent to. -/
theorem dev12 (c : Dev nD) : (⟨k0_dev12 c, k0_dev12_lt c⟩ : Dev nD) = peer 8 c := by revert c; decide +kernel

/-! ## A device's pieces of its buffers -/

section Pieces
variable (c : Dev nD)

/-- Planes `p` to `p + n - 1` of an accumulator, as a rectangle. -/
abbrev plA (p n : ℕ) (h : ∀ i, (![p, 0, 0] : Fin 3 → ℕ) i + (![n, 512, 768] : Fin 3 → ℕ) i ≤ (St 8 768).size i) :
    Memref sig .tc .vmem (St n 768) .bf16 := acA.slice (pl 8 768 p n h) (fun _ => rfl)
abbrev plB (p n : ℕ) (h : ∀ i, (![p, 0, 0] : Fin 3 → ℕ) i + (![n, 512, 640] : Fin 3 → ℕ) i ≤ (St 8 640).size i) :
    Memref sig .tc .vmem (St n 640) .bf16 := acB.slice (pl 8 640 p n h) (fun _ => rfl)
abbrev plC (p n : ℕ) (h : ∀ i, (![p, 0, 0] : Fin 3 → ℕ) i + (![n, 512, 640] : Fin 3 → ℕ) i ≤ (St 8 640).size i) :
    Memref sig .tc .vmem (St n 640) .bf16 := acC.slice (pl 8 640 p n h) (fun _ => rfl)

/-- Planes of an accumulator owned at some contents, and at known ones. -/
abbrev fA (p n : ℕ) (h : ∀ i, (![p, 0, 0] : Fin 3 → ℕ) i + (![n, 512, 768] : Fin 3 → ℕ) i ≤ (St 8 768).size i := by decide) : sProp 𝕄 :=
  any (c : Thread nD τ) (plA p n h) fullShare
abbrev fB (p n : ℕ) (h : ∀ i, (![p, 0, 0] : Fin 3 → ℕ) i + (![n, 512, 640] : Fin 3 → ℕ) i ≤ (St 8 640).size i := by decide) : sProp 𝕄 :=
  any (c : Thread nD τ) (plB p n h) fullShare
abbrev fC (p n : ℕ) (h : ∀ i, (![p, 0, 0] : Fin 3 → ℕ) i + (![n, 512, 640] : Fin 3 → ℕ) i ≤ (St 8 640).size i := by decide) : sProp 𝕄 :=
  any (c : Thread nD τ) (plC p n h) fullShare
abbrev oA (p n : ℕ) (X : (St n 768).Idx → Elt F .bf16)
    (h : ∀ i, (![p, 0, 0] : Fin 3 → ℕ) i + (![n, 512, 768] : Fin 3 → ℕ) i ≤ (St 8 768).size i := by decide) : sProp 𝕄 :=
  owns (c : Thread nD τ) (plA p n h) fullShare X
abbrev oB (p n : ℕ) (X : (St n 640).Idx → Elt F .bf16)
    (h : ∀ i, (![p, 0, 0] : Fin 3 → ℕ) i + (![n, 512, 640] : Fin 3 → ℕ) i ≤ (St 8 640).size i := by decide) : sProp 𝕄 :=
  owns (c : Thread nD τ) (plB p n h) fullShare X
abbrev oC (p n : ℕ) (X : (St n 640).Idx → Elt F .bf16)
    (h : ∀ i, (![p, 0, 0] : Fin 3 → ℕ) i + (![n, 512, 640] : Fin 3 → ℕ) i ≤ (St 8 640).size i := by decide) : sProp 𝕄 :=
  owns (c : Thread nD τ) (plC p n h) fullShare X

variable (I : Inp F)

/-- The device's inputs, as staged. -/
abbrev inX : sProp 𝕄 := owns (c : Thread nD τ) (Memref.whole cc0_stg0_0 : Memref sig .tc .vmem S4096x512 .fp8e4m3) fullShare (I.x c)
abbrev inW : sProp 𝕄 := owns (c : Thread nD τ) (Memref.whole cc0_stg1_0 : Memref sig .tc .vmem S512x2048 .fp8e5m2) fullShare (I.w c)

end Pieces

/-- A triple for a part: from `P` it ends with a result `v i`, for some `i`, and `R`. -/
def Tr {β ι : Type} (c : Dev nD) (P : sProp 𝕄) (p : Prog (TpuEff nD τ sig (Elt F) Λ₀ .tc) β) (v : ι → β) (R : sProp 𝕄) : Prop :=
  P ⊢ wp frame (wpE (defs₀ (F := F)) 𝒱₀ (c : Thread nD τ) none) Set.univ p (fun r => iprop(∃ i, ⌜r = v i⌝ ∗ R))

/-- Running a part by its triple, then the rest from each of its possible results. -/
theorem wp_tr {β ι α : Type} {c : Dev nD} {P R : sProp 𝕄} {p : Prog (TpuEff nD τ sig (Elt F) Λ₀ .tc) β} {v : ι → β}
    {k : β → Prog (TpuEff nD τ sig (Elt F) Λ₀ .tc) α} {Q : α → sProp (MT nD τ sig Unit (Elt F) ℕ UU ℕ)} (h : Tr c P p v R) :
    P ⊢ iprop((∀ i, R -∗ wp frame (wpE (defs₀ (F := F)) 𝒱₀ (c : Thread nD τ) none) Set.univ (k (v i)) Q)
      -∗ wp frame (wpE (defs₀ (F := F)) 𝒱₀ (c : Thread nD τ) none) Set.univ (p >>= k) Q) := by
  unfold Tr at h
  rw [wp_bind]
  iintro HP Hk
  ihave H := h $$ HP
  have h' : iprop(wp frame (wpE (defs₀ (F := F)) 𝒱₀ (c : Thread nD τ) none) Set.univ p (fun r => iprop(∃ i, ⌜r = v i⌝ ∗ R))
      ∗ (∀ i, R -∗ wp frame (wpE (defs₀ (F := F)) 𝒱₀ (c : Thread nD τ) none) Set.univ (k (v i)) Q))
      ⊢ wp frame (wpE (defs₀ (F := F)) 𝒱₀ (c : Thread nD τ) none) Set.univ p
          (fun a => wp frame (wpE (defs₀ (F := F)) 𝒱₀ (c : Thread nD τ) none) Set.univ (k a) Q) := by
    refine (wp_frame_r _ _ _).trans (wp_mono _ _ _ fun a => ?_)
    iintro ⟨⟨%i, %ha, HR⟩, Hk⟩
    subst ha
    iapply Hk; iexact HR
  iapply h'
  isplitl [H]; · iexact H
  iexact Hk

/-! ## What arrives is what the receive cell promises; planes stacked -/

section Got
variable (I : Inp F) (c : Dev nD)
/-- Transfer 0's bytes in the neighbour's buffer are what its receive cell hands over there. -/
theorem got0 : (owns (peer 0 c : Thread nD τ) dst0 fullShare (hiA I c) : sProp 𝕄) ⊢ landed I 0 (peer 0 c) := by
  dsimp only [landed]; rw [peer_peer]
/-- Transfer 1's bytes in the neighbour's buffer are what its receive cell hands over there. -/
theorem got1 : (owns (peer 1 c : Thread nD τ) dst1 fullShare (midA I c) : sProp 𝕄) ⊢ landed I 1 (peer 1 c) := by
  dsimp only [landed]; rw [peer_peer]
/-- Transfer 2's bytes in the neighbour's buffer are what its receive cell hands over there. -/
theorem got2 : (owns (peer 2 c : Thread nD τ) dst2 fullShare (sqA I c) : sProp 𝕄) ⊢ landed I 2 (peer 2 c) := by
  dsimp only [landed]; rw [peer_peer]
/-- Transfer 3's bytes in the neighbour's buffer are what its receive cell hands over there. -/
theorem got3 : (owns (peer 3 c : Thread nD τ) dst3 fullShare (hiB I c) : sProp 𝕄) ⊢ landed I 3 (peer 3 c) := by
  dsimp only [landed]; rw [peer_peer]
/-- Transfer 4's bytes in the neighbour's buffer are what its receive cell hands over there. -/
theorem got4 : (owns (peer 4 c : Thread nD τ) dst4 fullShare (midB I c) : sProp 𝕄) ⊢ landed I 4 (peer 4 c) := by
  dsimp only [landed]; rw [peer_peer]
/-- Transfer 5's bytes in the neighbour's buffer are what its receive cell hands over there. -/
theorem got5 : (owns (peer 5 c : Thread nD τ) dst5 fullShare (sqB I c) : sProp 𝕄) ⊢ landed I 5 (peer 5 c) := by
  dsimp only [landed]; rw [peer_peer]
/-- Transfer 6's bytes in the neighbour's buffer are what its receive cell hands over there. -/
theorem got6 : (owns (peer 6 c : Thread nD τ) dst6 fullShare (hiC I c) : sProp 𝕄) ⊢ landed I 6 (peer 6 c) := by
  dsimp only [landed]; rw [peer_peer]
/-- Transfer 7's bytes in the neighbour's buffer are what its receive cell hands over there. -/
theorem got7 : (owns (peer 7 c : Thread nD τ) dst7 fullShare (midC I c) : sProp 𝕄) ⊢ landed I 7 (peer 7 c) := by
  dsimp only [landed]; rw [peer_peer]
/-- Transfer 8's bytes in the neighbour's buffer are what its receive cell hands over there. -/
theorem got8 : (owns (peer 8 c : Thread nD τ) dst8 fullShare (sqC I c) : sProp 𝕄) ⊢ landed I 8 (peer 8 c) := by
  dsimp only [landed]; rw [peer_peer]
/-- What transfer 0 hands over on landing. -/
theorem landed0 : landed I 0 c = owns (c : Thread nD τ) dst0 fullShare (hiA I (peer 0 c)) := rfl
/-- What transfer 1 hands over on landing. -/
theorem landed1 : landed I 1 c = owns (c : Thread nD τ) dst1 fullShare (midA I (peer 1 c)) := rfl
/-- What transfer 2 hands over on landing. -/
theorem landed2 : landed I 2 c = owns (c : Thread nD τ) dst2 fullShare (sqA I (peer 2 c)) := rfl
/-- What transfer 3 hands over on landing. -/
theorem landed3 : landed I 3 c = owns (c : Thread nD τ) dst3 fullShare (hiB I (peer 3 c)) := rfl
/-- What transfer 4 hands over on landing. -/
theorem landed4 : landed I 4 c = owns (c : Thread nD τ) dst4 fullShare (midB I (peer 4 c)) := rfl
/-- What transfer 5 hands over on landing. -/
theorem landed5 : landed I 5 c = owns (c : Thread nD τ) dst5 fullShare (sqB I (peer 5 c)) := rfl
/-- What transfer 6 hands over on landing. -/
theorem landed6 : landed I 6 c = owns (c : Thread nD τ) dst6 fullShare (hiC I (peer 6 c)) := rfl
/-- What transfer 7 hands over on landing. -/
theorem landed7 : landed I 7 c = owns (c : Thread nD τ) dst7 fullShare (midC I (peer 7 c)) := rfl
/-- What transfer 8 hands over on landing. -/
theorem landed8 : landed I 8 c = owns (c : Thread nD τ) dst8 fullShare (sqC I (peer 8 c)) := rfl

/-- Planes 4 to 7 of group A owned one by one are owned as a stack of four. -/
theorem joinA4 (P4 P5 P6 P7 : (St 1 768).Idx → Elt F .bf16) :
    iprop(oA c 4 1 P4 ∗ oA c 5 1 P5 ∗ oA c 6 1 P6 ∗ oA c 7 1 P7) ⊢ (oA c 4 4 (st4 P4 P5 P6 P7) : sProp 𝕄) := by
  iintro ⟨H4, H5, H6, H7⟩
  iapply (join_pl (c : Thread nD τ) acA fullShare (a := 4) (b := 6) (n := 4) (n₁ := 2) (n₂ := 2) rfl rfl _ (by decide) (by decide) (st2 P4 P5) (st2 P6 P7))
  isplitl [H4 H5]
  · iapply (join_pl (c : Thread nD τ) acA fullShare (a := 4) (b := 5) (n := 2) (n₁ := 1) (n₂ := 1) rfl rfl _ _ _ P4 P5)
    isplitl [H4]; · iexact H4
    iexact H5
  · iapply (join_pl (c : Thread nD τ) acA fullShare (a := 6) (b := 7) (n := 2) (n₁ := 1) (n₂ := 1) rfl rfl _ _ _ P6 P7)
    isplitl [H6]; · iexact H6
    iexact H7
/-- Planes 2 and 3 of group A owned one by one are owned as a stack of two. -/
theorem joinA2 (P P' : (St 1 768).Idx → Elt F .bf16) : iprop(oA c 2 1 P ∗ oA c 3 1 P') ⊢ (oA c 2 2 (st2 P P') : sProp 𝕄) :=
  join_pl (c : Thread nD τ) acA fullShare (a := 2) (b := 3) (n := 2) (n₁ := 1) (n₂ := 1) rfl rfl _ _ _ P P'
/-- Planes 0 and 1 of group A owned one by one are owned as a stack of two. -/
theorem joinA0 (P P' : (St 1 768).Idx → Elt F .bf16) : iprop(oA c 0 1 P ∗ oA c 1 1 P') ⊢ (oA c 0 2 (st2 P P') : sProp 𝕄) :=
  join_pl (c : Thread nD τ) acA fullShare (a := 0) (b := 1) (n := 2) (n₁ := 1) (n₂ := 1) rfl rfl _ _ _ P P'
/-- Planes 0 and 1 of group A owned as a stack are owned one by one. -/
theorem splitA0 (X : (St 2 768).Idx → Elt F .bf16) : (oA c 0 2 X : sProp 𝕄) ⊢ iprop(oA c 0 1 (fstP X) ∗ oA c 1 1 (sndP X)) :=
  split_pl (c : Thread nD τ) acA fullShare (a := 0) (b := 1) (n := 2) (n₁ := 1) (n₂ := 1) rfl rfl _ _ _ X

/-- Planes 4 to 7 of group B owned one by one are owned as a stack of four. -/
theorem joinB4 (P4 P5 P6 P7 : (St 1 640).Idx → Elt F .bf16) :
    iprop(oB c 4 1 P4 ∗ oB c 5 1 P5 ∗ oB c 6 1 P6 ∗ oB c 7 1 P7) ⊢ (oB c 4 4 (st4 P4 P5 P6 P7) : sProp 𝕄) := by
  iintro ⟨H4, H5, H6, H7⟩
  iapply (join_pl (c : Thread nD τ) acB fullShare (a := 4) (b := 6) (n := 4) (n₁ := 2) (n₂ := 2) rfl rfl _ (by decide) (by decide) (st2 P4 P5) (st2 P6 P7))
  isplitl [H4 H5]
  · iapply (join_pl (c : Thread nD τ) acB fullShare (a := 4) (b := 5) (n := 2) (n₁ := 1) (n₂ := 1) rfl rfl _ _ _ P4 P5)
    isplitl [H4]; · iexact H4
    iexact H5
  · iapply (join_pl (c : Thread nD τ) acB fullShare (a := 6) (b := 7) (n := 2) (n₁ := 1) (n₂ := 1) rfl rfl _ _ _ P6 P7)
    isplitl [H6]; · iexact H6
    iexact H7
/-- Planes 2 and 3 of group B owned one by one are owned as a stack of two. -/
theorem joinB2 (P P' : (St 1 640).Idx → Elt F .bf16) : iprop(oB c 2 1 P ∗ oB c 3 1 P') ⊢ (oB c 2 2 (st2 P P') : sProp 𝕄) :=
  join_pl (c : Thread nD τ) acB fullShare (a := 2) (b := 3) (n := 2) (n₁ := 1) (n₂ := 1) rfl rfl _ _ _ P P'
/-- Planes 0 and 1 of group B owned one by one are owned as a stack of two. -/
theorem joinB0 (P P' : (St 1 640).Idx → Elt F .bf16) : iprop(oB c 0 1 P ∗ oB c 1 1 P') ⊢ (oB c 0 2 (st2 P P') : sProp 𝕄) :=
  join_pl (c : Thread nD τ) acB fullShare (a := 0) (b := 1) (n := 2) (n₁ := 1) (n₂ := 1) rfl rfl _ _ _ P P'
/-- Planes 0 and 1 of group B owned as a stack are owned one by one. -/
theorem splitB0 (X : (St 2 640).Idx → Elt F .bf16) : (oB c 0 2 X : sProp 𝕄) ⊢ iprop(oB c 0 1 (fstP X) ∗ oB c 1 1 (sndP X)) :=
  split_pl (c : Thread nD τ) acB fullShare (a := 0) (b := 1) (n := 2) (n₁ := 1) (n₂ := 1) rfl rfl _ _ _ X

/-- Planes 4 to 7 of group C owned one by one are owned as a stack of four. -/
theorem joinC4 (P4 P5 P6 P7 : (St 1 640).Idx → Elt F .bf16) :
    iprop(oC c 4 1 P4 ∗ oC c 5 1 P5 ∗ oC c 6 1 P6 ∗ oC c 7 1 P7) ⊢ (oC c 4 4 (st4 P4 P5 P6 P7) : sProp 𝕄) := by
  iintro ⟨H4, H5, H6, H7⟩
  iapply (join_pl (c : Thread nD τ) acC fullShare (a := 4) (b := 6) (n := 4) (n₁ := 2) (n₂ := 2) rfl rfl _ (by decide) (by decide) (st2 P4 P5) (st2 P6 P7))
  isplitl [H4 H5]
  · iapply (join_pl (c : Thread nD τ) acC fullShare (a := 4) (b := 5) (n := 2) (n₁ := 1) (n₂ := 1) rfl rfl _ _ _ P4 P5)
    isplitl [H4]; · iexact H4
    iexact H5
  · iapply (join_pl (c : Thread nD τ) acC fullShare (a := 6) (b := 7) (n := 2) (n₁ := 1) (n₂ := 1) rfl rfl _ _ _ P6 P7)
    isplitl [H6]; · iexact H6
    iexact H7
/-- Planes 2 and 3 of group C owned one by one are owned as a stack of two. -/
theorem joinC2 (P P' : (St 1 640).Idx → Elt F .bf16) : iprop(oC c 2 1 P ∗ oC c 3 1 P') ⊢ (oC c 2 2 (st2 P P') : sProp 𝕄) :=
  join_pl (c : Thread nD τ) acC fullShare (a := 2) (b := 3) (n := 2) (n₁ := 1) (n₂ := 1) rfl rfl _ _ _ P P'
/-- Planes 0 and 1 of group C owned one by one are owned as a stack of two. -/
theorem joinC0 (P P' : (St 1 640).Idx → Elt F .bf16) : iprop(oC c 0 1 P ∗ oC c 1 1 P') ⊢ (oC c 0 2 (st2 P P') : sProp 𝕄) :=
  join_pl (c : Thread nD τ) acC fullShare (a := 0) (b := 1) (n := 2) (n₁ := 1) (n₂ := 1) rfl rfl _ _ _ P P'
/-- Planes 0 and 1 of group C owned as a stack are owned one by one. -/
theorem splitC0 (X : (St 2 640).Idx → Elt F .bf16) : (oC c 0 2 X : sProp 𝕄) ⊢ iprop(oC c 0 1 (fstP X) ∗ oC c 1 1 (sndP X)) :=
  split_pl (c : Thread nD τ) acC fullShare (a := 0) (b := 1) (n := 2) (n₁ := 1) (n₂ := 1) rfl rfl _ _ _ X
/-- Plane 1 of group A without the axis of one plane. -/
theorem squeezeA : (oA c 1 1 (oneA I c) : sProp 𝕄) ⊢ owns (c : Thread nD τ) src2 fullShare (sqA I c) :=
  Entails.of_eq (owns_squeeze (c : Thread nD τ) (plA 1 1 (by decide)) fullShare S512x768 squeezes_S1x512x768_S512x768 (oneA I c))
/-- Plane 1 of group B without the axis of one plane. -/
theorem squeezeB : (oB c 1 1 (oneB I c) : sProp 𝕄) ⊢ owns (c : Thread nD τ) src5 fullShare (sqB I c) :=
  Entails.of_eq (owns_squeeze (c : Thread nD τ) (plB 1 1 (by decide)) fullShare S512x640 squeezes_S1x512x640_S512x640 (oneB I c))
/-- Plane 1 of group C without the axis of one plane. -/
theorem squeezeC : (oC c 1 1 (oneC I c) : sProp 𝕄) ⊢ owns (c : Thread nD τ) src8 fullShare (sqC I c) :=
  Entails.of_eq (owns_squeeze (c : Thread nD τ) (plC 1 1 (by decide)) fullShare S512x640 squeezes_S1x512x640_S512x640 (oneC I c))

end Got

end Cert.KernelIdealProof

end
-- ==== Proof.Body1.lean ====
/-
Parts 1 to 5 of the body: the barrier, the planes that are sent first, and
the first transfers of groups A and B.
-/
module

public import proofs.«01_k».proof.Proof.Parts

@[expose] public section

set_option maxRecDepth 16384

noncomputable section

namespace Cert.KernelIdealProof

open Cert.KernelIdeal Cert.KernelIdeal.Gen Cert.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × Fin 19 → ℕ) (c : Dev nD)

/-- The barrier, `w`, and plane 4 of group A. -/
theorem tr1 : Tr (ι := BitVec 32 × BitVec 32) c
    iprop(env I K ∗ Owed c (O₀ c) ∗ (dutyTok ER (barCell (px 0 c)) 0 (0 : Fin 3) ∗ dutyTok ER (barCell (px 1 c)) 0 (1 : Fin 3) ∗ dutyTok ER (barCell (px 2 c)) 0 (2 : Fin 3))
      ∗ (barPay 0 c ∗ barPay 1 c ∗ barPay 2 c) ∗ waitKit (barCell c) 3 ∗ inX c I ∗ inW c I ∗ fA c 4 1)
    part1 (fun i => ⟨c, i.1, we I c, i.2⟩)
    iprop(Ow c ord ∗ past (barCell c) ∗ (barPay 0 (px 0 c) ∗ barPay 1 (px 1 c) ∗ barPay 2 (px 2 c)) ∗ inX c I ∗ inW c I ∗ oA c 4 1 (pA4 I c)) := by
  unfold Tr
  rw [part1_eq]; unfold k0_part1_skel
  simp only [semSignalWord, semWaitWord, Prog.lift, Prog.bind_op, Prog.bind_ret, Prog.pure_eq_ret, wp_deviceId]
  iintro ⟨#He, HO, ⟨Ht0, Ht1, Ht2⟩, ⟨Hp0, Hp1, Hp2⟩, Hb, Hx, Hw, Ha⟩
  iapply (wp_sig I K c 0 (O₀ c) (O₁ c) rfl _ (dev1 c)) $$ [HO Ht0 Hp0]
  · isplitr; · iexact He
    isplitl [HO]; · iexact HO
    isplitl [Ht0]; · iexact Ht0
    iexact Hp0
  iintro HO
  iapply (wp_sig I K c 1 (O₁ c) (O₂ c) rfl _ (dev2 c)) $$ [HO Ht1 Hp1]
  · isplitr; · iexact He
    isplitl [HO]; · iexact HO
    isplitl [Ht1]; · iexact Ht1
    iexact Hp1
  iintro HO
  iapply (wp_sig I K c 2 (O₂ c) (owe c ord) rfl _ (dev3 c)) $$ [HO Ht2 Hp2]
  · isplitr; · iexact He
    isplitl [HO]; · iexact HO
    isplitl [Ht2]; · iexact Ht2
    iexact Hp2
  iintro HO
  iapply (wp_bar I K c) $$ [HO Hb]
  · isplitr; · iexact He
    isplitl [HO]; · iexact HO
    iexact Hb
  iintro ⟨HO, Hpast, Hp⟩
  iapply (wp_ld 𝒱₀ (c : Thread nD τ) (m := Memref.whole cc0_stg1_0) fullShare (I.w c)) $$ Hw
  iintro Hw
  iapply (wp_plane 𝒱₀ (c : Thread nD τ) (mx := Memref.whole cc0_stg0_0) (m := acA) (fun _ => rfl) fullShare (I.x c)) $$ [Hx Ha]
  · isplitl [Hx]; · iexact Hx
    iexact Ha
  iintro Hx Ha
  rw [wp_ret]; imodintro
  iexists (_, _); isplitr; · ipureintro; rfl
  isplitl [HO]; · iexact HO
  isplitl [Hpast]; · iexact Hpast
  isplitl [Hp]; · iexact Hp
  isplitl [Hx]; · iexact Hx
  isplitl [Hw]; · iexact Hw
  iexact Ha

/-- Planes 5 to 7 of group A. -/
theorem tr2 (u : BitVec 32) (u' : BitVec 32) : Tr (ι := Unit) c
    iprop(inX c I ∗ fA c 5 1 ∗ fA c 6 1 ∗ fA c 7 1)
    (part2 c u (we I c) u') (fun i => 1#32)
    iprop(inX c I ∗ oA c 5 1 (pA5 I c) ∗ oA c 6 1 (pA6 I c) ∗ oA c 7 1 (pA7 I c)) := by
  unfold Tr
  rw [part2_eq]; unfold k0_part2_skel
  simp only [Prog.lift, Prog.bind_op, Prog.bind_ret, Prog.pure_eq_ret]
  iintro ⟨Hx, Ha5, Ha6, Ha7⟩
  iapply (wp_ld 𝒱₀ (c : Thread nD τ) (m := Memref.whole cc0_stg0_0) fullShare (I.x c)) $$ Hx
  iintro Hx
  iapply (wp_upd 𝒱₀ (c : Thread nD τ) (m := acA) (fun _ => rfl)) $$ Ha5
  iintro Ha5
  iapply (wp_ld 𝒱₀ (c : Thread nD τ) (m := Memref.whole cc0_stg0_0) fullShare (I.x c)) $$ Hx
  iintro Hx
  iapply (wp_upd 𝒱₀ (c : Thread nD τ) (m := acA) (fun _ => rfl)) $$ Ha6
  iintro Ha6
  iapply (wp_ld 𝒱₀ (c : Thread nD τ) (m := Memref.whole cc0_stg0_0) fullShare (I.x c)) $$ Hx
  iintro Hx
  iapply (wp_upd 𝒱₀ (c : Thread nD τ) (m := acA) (fun _ => rfl)) $$ Ha7
  iintro Ha7
  rw [wp_ret]; imodintro
  iexists (); isplitr; · ipureintro; rfl
  isplitl [Hx]; · iexact Hx
  isplitl [Ha5]; · iexact Ha5
  isplitl [Ha6]; · iexact Ha6
  iexact Ha7

/-- The first transfer of group A; planes 4 and 5 of group B. -/
theorem tr3 (u : BitVec 32) (u' : BitVec 32) : Tr (ι := BitVec 32 × BitVec 32) c
    iprop(env I K ∗ Ow c ord ∗ inX c I ∗ oA c 4 4 (hiA I c) ∗ landAny 0 (peer 0 c) ∗ sendKit 0 c ∗ fB c 4 1 ∗ fB c 5 1)
    (part3 c u (we I c) u') (fun i => ⟨i.1, i.2⟩)
    iprop(cred (tallyAt (sndCell 0 c) () (N 0)) ∗ Ow c [3, 6, 1, 4, 7, 2, 5, 8] ∗ inX c I ∗ oB c 4 1 (pB4 I c) ∗ oB c 5 1 (pB5 I c)) := by
  unfold Tr
  rw [part3_eq]; unfold k0_part3_skel
  simp only [Prog.lift, Prog.bind_op, Prog.bind_ret, Prog.pure_eq_ret]
  iintro ⟨#He, HO, Hx, Ha, Hl, Hkit, Hb4, Hb5⟩
  iapply (wp_xfer I K c 0 [3, 6, 1, 4, 7, 2, 5, 8] _ (dev4 c) src0 dst0 (hiA I c) (by rfl) (by rfl) rfl (any_intro _ _ _ _) (BI.Entails.refl _) (got0 I c)) $$ [Ha Hl Hkit HO]
  · isplitr; · iexact He
    isplitl [Ha]; · iexact Ha
    isplitl [Hl]; · iexact Hl
    isplitl [Hkit]; · iexact Hkit
    iexact HO
  iintro ⟨Hcr, HO⟩
  iapply (wp_ld 𝒱₀ (c : Thread nD τ) (m := Memref.whole cc0_stg0_0) fullShare (I.x c)) $$ Hx
  iintro Hx
  iapply (wp_upd 𝒱₀ (c : Thread nD τ) (m := acB) (fun _ => rfl)) $$ Hb4
  iintro Hb4
  iapply (wp_ld 𝒱₀ (c : Thread nD τ) (m := Memref.whole cc0_stg0_0) fullShare (I.x c)) $$ Hx
  iintro Hx
  iapply (wp_upd 𝒱₀ (c : Thread nD τ) (m := acB) (fun _ => rfl)) $$ Hb5
  iintro Hb5
  rw [wp_ret]; imodintro
  iexists (_, _); isplitr; · ipureintro; rfl
  isplitl [Hcr]; · iexact Hcr
  isplitl [HO]; · iexact HO
  isplitl [Hx]; · iexact Hx
  isplitl [Hb4]; · iexact Hb4
  iexact Hb5

/-- Planes 6 and 7 of group B and its first transfer. -/
theorem tr4 (u : BitVec 32) (u' : BitVec 32) : Tr (ι := BitVec 32) c
    iprop(env I K ∗ Ow c [3, 6, 1, 4, 7, 2, 5, 8] ∗ inX c I ∗ oB c 4 1 (pB4 I c) ∗ oB c 5 1 (pB5 I c) ∗ fB c 6 1 ∗ fB c 7 1 ∗ landAny 3 (peer 3 c) ∗ sendKit 3 c)
    (part4 c u (we I c) u') (fun i => ⟨i, xr I c 4⟩)
    iprop(cred (tallyAt (sndCell 3 c) () (N 3)) ∗ Ow c [6, 1, 4, 7, 2, 5, 8] ∗ inX c I) := by
  unfold Tr
  rw [part4_eq]; unfold k0_part4_skel
  simp only [Prog.lift, Prog.bind_op, Prog.bind_ret, Prog.pure_eq_ret]
  iintro ⟨#He, HO, Hx, Hb4, Hb5, Hb6, Hb7, Hl, Hkit⟩
  iapply (wp_ld 𝒱₀ (c : Thread nD τ) (m := Memref.whole cc0_stg0_0) fullShare (I.x c)) $$ Hx
  iintro Hx
  iapply (wp_upd 𝒱₀ (c : Thread nD τ) (m := acB) (fun _ => rfl)) $$ Hb6
  iintro Hb6
  iapply (wp_ld 𝒱₀ (c : Thread nD τ) (m := Memref.whole cc0_stg0_0) fullShare (I.x c)) $$ Hx
  iintro Hx
  iapply (wp_upd 𝒱₀ (c : Thread nD τ) (m := acB) (fun _ => rfl)) $$ Hb7
  iintro Hb7
  ihave Hb := (joinB4 c (pB4 I c) (pB5 I c) (pB6 I c) (pB7 I c)) $$ [Hb4 Hb5 Hb6 Hb7]
  · isplitl [Hb4]; · iexact Hb4
    isplitl [Hb5]; · iexact Hb5
    isplitl [Hb6]; · iexact Hb6
    iexact Hb7
  iapply (wp_xfer I K c 3 [6, 1, 4, 7, 2, 5, 8] _ (dev5 c) src3 dst3 (hiB I c) (by rfl) (by rfl) rfl (any_intro _ _ _ _) (BI.Entails.refl _) (got3 I c)) $$ [Hb Hl Hkit HO]
  · isplitr; · iexact He
    isplitl [Hb]; · iexact Hb
    isplitl [Hl]; · iexact Hl
    isplitl [Hkit]; · iexact Hkit
    iexact HO
  iintro ⟨Hcr, HO⟩
  iapply (wp_ld 𝒱₀ (c : Thread nD τ) (m := Memref.whole cc0_stg0_0) fullShare (I.x c)) $$ Hx
  iintro Hx
  rw [wp_ret]; imodintro
  iexists _; isplitr; · ipureintro; rfl
  isplitl [Hcr]; · iexact Hcr
  isplitl [HO]; · iexact HO
  iexact Hx

/-- Planes 4 to 6 of group C. -/
theorem tr5 (u : BitVec 32) : Tr (ι := Unit) c
    iprop(inX c I ∗ fC c 4 1 ∗ fC c 5 1 ∗ fC c 6 1)
    (part5 c u (we I c) (xr I c 4)) (fun i => xr I c 6)
    iprop(inX c I ∗ oC c 4 1 (pC4 I c) ∗ oC c 5 1 (pC5 I c) ∗ oC c 6 1 (pC6 I c)) := by
  unfold Tr
  rw [part5_eq]; unfold k0_part5_skel
  simp only [Prog.lift, Prog.bind_op, Prog.bind_ret, Prog.pure_eq_ret]
  iintro ⟨Hx, Hc4, Hc5, Hc6⟩
  iapply (wp_upd 𝒱₀ (c : Thread nD τ) (m := acC) (fun _ => rfl)) $$ Hc4
  iintro Hc4
  iapply (wp_ld 𝒱₀ (c : Thread nD τ) (m := Memref.whole cc0_stg0_0) fullShare (I.x c)) $$ Hx
  iintro Hx
  iapply (wp_upd 𝒱₀ (c : Thread nD τ) (m := acC) (fun _ => rfl)) $$ Hc5
  iintro Hc5
  iapply (wp_ld 𝒱₀ (c : Thread nD τ) (m := Memref.whole cc0_stg0_0) fullShare (I.x c)) $$ Hx
  iintro Hx
  iapply (wp_upd 𝒱₀ (c : Thread nD τ) (m := acC) (fun _ => rfl)) $$ Hc6
  iintro Hc6
  iapply (wp_ld 𝒱₀ (c : Thread nD τ) (m := Memref.whole cc0_stg0_0) fullShare (I.x c)) $$ Hx
  iintro Hx
  rw [wp_ret]; imodintro
  iexists (); isplitr; · ipureintro; rfl
  isplitl [Hx]; · iexact Hx
  isplitl [Hc4]; · iexact Hc4
  isplitl [Hc5]; · iexact Hc5
  iexact Hc6

end Cert.KernelIdealProof

end
-- ==== Proof.Body2.lean ====
/-
Parts 6 to 10 of the body: the first transfer of group C, the planes a device
adds to what it receives, and the first receipt of group A.
-/
module

public import proofs.«01_k».proof.Proof.Parts

@[expose] public section

set_option maxRecDepth 16384

noncomputable section

namespace Cert.KernelIdealProof

open Cert.KernelIdeal Cert.KernelIdeal.Gen Cert.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × Fin 19 → ℕ) (c : Dev nD)

/-- Plane 7 of group C and its first transfer; plane 0 of group A. -/
theorem tr6 (u : BitVec 32) : Tr (ι := BitVec 32) c
    iprop(env I K ∗ Ow c [6, 1, 4, 7, 2, 5, 8] ∗ inX c I ∗ oC c 4 1 (pC4 I c) ∗ oC c 5 1 (pC5 I c) ∗ oC c 6 1 (pC6 I c) ∗ fC c 7 1 ∗ landAny 6 (peer 6 c) ∗ sendKit 6 c ∗ fA c 0 1)
    (part6 c u (we I c) (xr I c 6)) (fun i => ⟨i, k0_pay15 (xr I c 4), k0_pay16 (we I c)⟩)
    iprop(cred (tallyAt (sndCell 6 c) () (N 6)) ∗ Ow c [1, 4, 7, 2, 5, 8] ∗ inX c I ∗ oA c 0 1 (pA0 I c)) := by
  unfold Tr
  rw [part6_eq]; unfold k0_part6_skel
  simp only [Prog.lift, Prog.bind_op, Prog.bind_ret, Prog.pure_eq_ret]
  iintro ⟨#He, HO, Hx, Hc4, Hc5, Hc6, Hc7, Hl, Hkit, Ha0⟩
  iapply (wp_upd 𝒱₀ (c : Thread nD τ) (m := acC) (fun _ => rfl)) $$ Hc7
  iintro Hc7
  ihave Hc := (joinC4 c (pC4 I c) (pC5 I c) (pC6 I c) (pC7 I c)) $$ [Hc4 Hc5 Hc6 Hc7]
  · isplitl [Hc4]; · iexact Hc4
    isplitl [Hc5]; · iexact Hc5
    isplitl [Hc6]; · iexact Hc6
    iexact Hc7
  iapply (wp_xfer I K c 6 [1, 4, 7, 2, 5, 8] _ (dev6 c) src6 dst6 (hiC I c) (by rfl) (by rfl) rfl (any_intro _ _ _ _) (BI.Entails.refl _) (got6 I c)) $$ [Hc Hl Hkit HO]
  · isplitr; · iexact He
    isplitl [Hc]; · iexact Hc
    isplitl [Hl]; · iexact Hl
    isplitl [Hkit]; · iexact Hkit
    iexact HO
  iintro ⟨Hcr, HO⟩
  iapply (wp_ld 𝒱₀ (c : Thread nD τ) (m := Memref.whole cc0_stg0_0) fullShare (I.x c)) $$ Hx
  iintro Hx
  iapply (wp_upd 𝒱₀ (c : Thread nD τ) (m := acA) (fun _ => rfl)) $$ Ha0
  iintro Ha0
  iapply (wp_ld 𝒱₀ (c : Thread nD τ) (m := Memref.whole cc0_stg0_0) fullShare (I.x c)) $$ Hx
  iintro Hx
  rw [wp_ret]; imodintro
  iexists _; isplitr; · ipureintro; rfl
  isplitl [Hcr]; · iexact Hcr
  isplitl [HO]; · iexact HO
  isplitl [Hx]; · iexact Hx
  iexact Ha0

/-- Planes 1 to 3 of group A. -/
theorem tr7 (u : BitVec 32) : Tr (ι := Unit) c
    iprop(inX c I ∗ fA c 1 1 ∗ fA c 2 1 ∗ fA c 3 1)
    (part7 c u (we I c) (k0_pay15 (xr I c 4)) (k0_pay16 (we I c))) (fun i => ⟨k0_pay20 (xr I c 0), k0_pay21 (we I c)⟩)
    iprop(inX c I ∗ oA c 1 1 (pA1 I c) ∗ oA c 2 1 (pA2 I c) ∗ oA c 3 1 (pA3 I c)) := by
  unfold Tr
  rw [part7_eq]; unfold k0_part7_skel
  simp only [Prog.lift, Prog.bind_op, Prog.bind_ret, Prog.pure_eq_ret]
  iintro ⟨Hx, Ha1, Ha2, Ha3⟩
  iapply (wp_upd 𝒱₀ (c : Thread nD τ) (m := acA) (fun _ => rfl)) $$ Ha1
  iintro Ha1
  iapply (wp_ld 𝒱₀ (c : Thread nD τ) (m := Memref.whole cc0_stg0_0) fullShare (I.x c)) $$ Hx
  iintro Hx
  iapply (wp_upd 𝒱₀ (c : Thread nD τ) (m := acA) (fun _ => rfl)) $$ Ha2
  iintro Ha2
  iapply (wp_ld 𝒱₀ (c : Thread nD τ) (m := Memref.whole cc0_stg0_0) fullShare (I.x c)) $$ Hx
  iintro Hx
  iapply (wp_upd 𝒱₀ (c : Thread nD τ) (m := acA) (fun _ => rfl)) $$ Ha3
  iintro Ha3
  iapply (wp_ld 𝒱₀ (c : Thread nD τ) (m := Memref.whole cc0_stg0_0) fullShare (I.x c)) $$ Hx
  iintro Hx
  rw [wp_ret]; imodintro
  iexists (); isplitr; · ipureintro; rfl
  isplitl [Hx]; · iexact Hx
  isplitl [Ha1]; · iexact Ha1
  isplitl [Ha2]; · iexact Ha2
  iexact Ha3

/-- Planes 0 to 2 of group B. -/
theorem tr8 (u : BitVec 32) : Tr (ι := Unit) c
    iprop(inX c I ∗ fB c 0 1 ∗ fB c 1 1 ∗ fB c 2 1)
    (part8 c u (we I c) (k0_pay20 (xr I c 0)) (k0_pay21 (we I c))) (fun i => ⟨k0_pay25 (xr I c 5), k0_pay26 (we I c)⟩)
    iprop(inX c I ∗ oB c 0 1 (pB0 I c) ∗ oB c 1 1 (pB1 I c) ∗ oB c 2 1 (pB2 I c)) := by
  unfold Tr
  rw [part8_eq]; unfold k0_part8_skel
  simp only [Prog.lift, Prog.bind_op, Prog.bind_ret, Prog.pure_eq_ret]
  iintro ⟨Hx, Hb0, Hb1, Hb2⟩
  iapply (wp_upd 𝒱₀ (c : Thread nD τ) (m := acB) (fun _ => rfl)) $$ Hb0
  iintro Hb0
  iapply (wp_ld 𝒱₀ (c : Thread nD τ) (m := Memref.whole cc0_stg0_0) fullShare (I.x c)) $$ Hx
  iintro Hx
  iapply (wp_upd 𝒱₀ (c : Thread nD τ) (m := acB) (fun _ => rfl)) $$ Hb1
  iintro Hb1
  iapply (wp_ld 𝒱₀ (c : Thread nD τ) (m := Memref.whole cc0_stg0_0) fullShare (I.x c)) $$ Hx
  iintro Hx
  iapply (wp_upd 𝒱₀ (c : Thread nD τ) (m := acB) (fun _ => rfl)) $$ Hb2
  iintro Hb2
  iapply (wp_ld 𝒱₀ (c : Thread nD τ) (m := Memref.whole cc0_stg0_0) fullShare (I.x c)) $$ Hx
  iintro Hx
  rw [wp_ret]; imodintro
  iexists (); isplitr; · ipureintro; rfl
  isplitl [Hx]; · iexact Hx
  isplitl [Hb0]; · iexact Hb0
  isplitl [Hb1]; · iexact Hb1
  iexact Hb2

/-- Plane 3 of group B, planes 0 and 1 of group C. -/
theorem tr9 (u : BitVec 32) : Tr (ι := Unit) c
    iprop(inX c I ∗ fB c 3 1 ∗ fC c 0 1 ∗ fC c 1 1)
    (part9 c u (we I c) (k0_pay25 (xr I c 5)) (k0_pay26 (we I c))) (fun i => ⟨k0_pay30 (xr I c 1), k0_pay31 (we I c)⟩)
    iprop(inX c I ∗ oB c 3 1 (pB3 I c) ∗ oC c 0 1 (pC0 I c) ∗ oC c 1 1 (pC1 I c)) := by
  unfold Tr
  rw [part9_eq]; unfold k0_part9_skel
  simp only [Prog.lift, Prog.bind_op, Prog.bind_ret, Prog.pure_eq_ret]
  iintro ⟨Hx, Hb3, Hc0, Hc1⟩
  iapply (wp_upd 𝒱₀ (c : Thread nD τ) (m := acB) (fun _ => rfl)) $$ Hb3
  iintro Hb3
  iapply (wp_ld 𝒱₀ (c : Thread nD τ) (m := Memref.whole cc0_stg0_0) fullShare (I.x c)) $$ Hx
  iintro Hx
  iapply (wp_upd 𝒱₀ (c : Thread nD τ) (m := acC) (fun _ => rfl)) $$ Hc0
  iintro Hc0
  iapply (wp_ld 𝒱₀ (c : Thread nD τ) (m := Memref.whole cc0_stg0_0) fullShare (I.x c)) $$ Hx
  iintro Hx
  iapply (wp_upd 𝒱₀ (c : Thread nD τ) (m := acC) (fun _ => rfl)) $$ Hc1
  iintro Hc1
  iapply (wp_ld 𝒱₀ (c : Thread nD τ) (m := Memref.whole cc0_stg0_0) fullShare (I.x c)) $$ Hx
  iintro Hx
  rw [wp_ret]; imodintro
  iexists (); isplitr; · ipureintro; rfl
  isplitl [Hx]; · iexact Hx
  isplitl [Hb3]; · iexact Hb3
  isplitl [Hc0]; · iexact Hc0
  iexact Hc1

/-- Planes 2 and 3 of group C, and the first receipt of group A. -/
theorem tr10 (u : BitVec 32) (u' : BitVec 32) : Tr (ι := Unit) c
    iprop(env I K ∗ Ow c [1, 4, 7, 2, 5, 8] ∗ inX c I ∗ fC c 2 1 ∗ fC c 3 1 ∗ waitKit (sndCell 0 c) (N 0) ∗ waitKit (rcvCell 0 c) (N 0) ∗ oA c 2 2 (st2 (pA2 I c) (pA3 I c)))
    (part10 c u (we I c) u' (k0_pay30 (xr I c 1)) (k0_pay31 (we I c))) (fun i => st2 (pA2 I c) (pA3 I c))
    iprop(Ow c [1, 4, 7, 2, 5, 8] ∗ past (sndCell 0 c) ∗ past (rcvCell 0 c) ∗ srcAny 0 c ∗ landed I 0 c ∗ inX c I ∗ oC c 2 1 (pC2 I c) ∗ oC c 3 1 (pC3 I c) ∗ oA c 2 2 (st2 (pA2 I c) (pA3 I c))) := by
  unfold Tr
  rw [part10_eq]; unfold k0_part10_skel
  simp only [Prog.lift, Prog.bind_op, Prog.bind_ret, Prog.pure_eq_ret]
  iintro ⟨#He, HO, Hx, Hc2, Hc3, HwS0, HwR0, Ha⟩
  iapply (wp_upd 𝒱₀ (c : Thread nD τ) (m := acC) (fun _ => rfl)) $$ Hc2
  iintro Hc2
  iapply (wp_ld 𝒱₀ (c : Thread nD τ) (m := Memref.whole cc0_stg0_0) fullShare (I.x c)) $$ Hx
  iintro Hx
  iapply (wp_upd 𝒱₀ (c : Thread nD τ) (m := acC) (fun _ => rfl)) $$ Hc3
  iintro Hc3
  iapply (wp_waitS I K c 0 [1, 4, 7, 2, 5, 8] (by rfl) (by rfl)) $$ [HO HwS0]
  · isplitr; · iexact He
    isplitl [HO]; · iexact HO
    iexact HwS0
  iintro ⟨HO, HpS0, Hs0⟩
  iapply (wp_waitR I K c 0 [1, 4, 7, 2, 5, 8] (by decide) (by rfl) (by rfl)) $$ [HO HwR0]
  · isplitr; · iexact He
    isplitl [HO]; · iexact HO
    iexact HwR0
  iintro ⟨HO, HpR0, Hd0⟩
  iapply (wp_ldr 𝒱₀ (c : Thread nD τ) (m := acA) (fun _ => rfl) fullShare (st2 (pA2 I c) (pA3 I c))) $$ Ha
  iintro Ha
  rw [wp_ret]; imodintro
  iexists (); isplitr; · ipureintro; rfl
  isplitl [HO]; · iexact HO
  isplitl [HpS0]; · iexact HpS0
  isplitl [HpR0]; · iexact HpR0
  isplitl [Hs0]; · iexact Hs0
  isplitl [Hd0]; · iexact Hd0
  isplitl [Hx]; · iexact Hx
  isplitl [Hc2]; · iexact Hc2
  isplitl [Hc3]; · iexact Hc3
  iexact Ha

end Cert.KernelIdealProof

end
-- ==== Proof.Body3.lean ====
/-
Parts 11 to 14 of the body: the second transfers, and planes 0 and 1 with the
first neighbours' added.
-/
module

public import proofs.«01_k».proof.Proof.Parts

@[expose] public section

set_option maxRecDepth 16384

noncomputable section

namespace Cert.KernelIdealProof

open Cert.KernelIdeal Cert.KernelIdeal.Gen Cert.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × Fin 19 → ℕ) (c : Dev nD)

/-- The second transfer of group A, the first receipt of group B. -/
theorem tr11 (u : BitVec 32) (u' : BitVec 32) : Tr (ι := BitVec 32) c
    iprop(env I K ∗ Ow c [1, 4, 7, 2, 5, 8] ∗ landed I 0 c ∗ oA c 2 2 (st2 (pA2 I c) (pA3 I c)) ∗ landAny 1 (peer 1 c) ∗ sendKit 1 c ∗ waitKit (sndCell 3 c) (N 3) ∗ waitKit (rcvCell 3 c) (N 3) ∗ oB c 2 2 (st2 (pB2 I c) (pB3 I c)))
    (part11 c u u' (st2 (pA2 I c) (pA3 I c))) (fun i => ⟨i, st2 (pB2 I c) (pB3 I c), rd rB42.toLoadRect (hiB I (peer 3 c))⟩)
    iprop(Ow c [4, 7, 2, 5, 8] ∗ landed I 0 c ∗ cred (tallyAt (sndCell 1 c) () (N 1)) ∗ past (sndCell 3 c) ∗ past (rcvCell 3 c) ∗ srcAny 3 c ∗ landed I 3 c ∗ oB c 2 2 (st2 (pB2 I c) (pB3 I c))) := by
  unfold Tr
  rw [part11_eq]; unfold k0_part11_skel
  simp only [Prog.lift, Prog.bind_op, Prog.bind_ret, Prog.pure_eq_ret]
  iintro ⟨#He, HO, Hd0, Ha, Hl, Hkit, HwS3, HwR3, Hb⟩
  ihave Hd0 := (Entails.of_eq (landed0 I c)) $$ Hd0
  iapply (wp_ld 𝒱₀ (c : Thread nD τ) (m := dst0) fullShare (hiA I (peer 0 c))) $$ Hd0
  iintro Hd0
  ihave Hd0 := (Entails.of_eq (landed0 I c).symm) $$ Hd0
  iapply (wp_upd 𝒱₀ (c : Thread nD τ) (m := acA) (fun _ => rfl)) $$ [Ha]
  · iapply (any_intro (c : Thread nD τ) _ fullShare (st2 (pA2 I c) (pA3 I c))); iexact Ha
  iintro Ha
  iapply (wp_xfer I K c 1 [4, 7, 2, 5, 8] _ (dev7 c) src1 dst1 (midA I c) (by rfl) (by rfl) rfl (any_intro _ _ _ _) (BI.Entails.refl _) (got1 I c)) $$ [Ha Hl Hkit HO]
  · isplitr; · iexact He
    isplitl [Ha]; · iexact Ha
    isplitl [Hl]; · iexact Hl
    isplitl [Hkit]; · iexact Hkit
    iexact HO
  iintro ⟨Hcr, HO⟩
  iapply (wp_waitS I K c 3 [4, 7, 2, 5, 8] (by rfl) (by rfl)) $$ [HO HwS3]
  · isplitr; · iexact He
    isplitl [HO]; · iexact HO
    iexact HwS3
  iintro ⟨HO, HpS3, Hs3⟩
  iapply (wp_waitR I K c 3 [4, 7, 2, 5, 8] (by decide) (by rfl) (by rfl)) $$ [HO HwR3]
  · isplitr; · iexact He
    isplitl [HO]; · iexact HO
    iexact HwR3
  iintro ⟨HO, HpR3, Hd3⟩
  iapply (wp_ldr 𝒱₀ (c : Thread nD τ) (m := acB) (fun _ => rfl) fullShare (st2 (pB2 I c) (pB3 I c))) $$ Hb
  iintro Hb
  ihave Hd3 := (Entails.of_eq (landed3 I c)) $$ Hd3
  iapply (wp_ld 𝒱₀ (c : Thread nD τ) (m := dst3) fullShare (hiB I (peer 3 c))) $$ Hd3
  iintro Hd3
  ihave Hd3 := (Entails.of_eq (landed3 I c).symm) $$ Hd3
  rw [wp_ret]; imodintro
  iexists _; isplitr; · ipureintro; rfl
  isplitl [HO]; · iexact HO
  isplitl [Hd0]; · iexact Hd0
  isplitl [Hcr]; · iexact Hcr
  isplitl [HpS3]; · iexact HpS3
  isplitl [HpR3]; · iexact HpR3
  isplitl [Hs3]; · iexact Hs3
  isplitl [Hd3]; · iexact Hd3
  iexact Hb

/-- The second transfer of group B, the first receipt of group C. -/
theorem tr12 (u : BitVec 32) (u' : BitVec 32) : Tr (ι := BitVec 32) c
    iprop(env I K ∗ Ow c [4, 7, 2, 5, 8] ∗ oB c 2 2 (st2 (pB2 I c) (pB3 I c)) ∗ landAny 4 (peer 4 c) ∗ sendKit 4 c ∗ waitKit (sndCell 6 c) (N 6) ∗ waitKit (rcvCell 6 c) (N 6) ∗ oC c 2 2 (st2 (pC2 I c) (pC3 I c)))
    (part12 c u u' (st2 (pB2 I c) (pB3 I c)) (rd rB42.toLoadRect (hiB I (peer 3 c)))) (fun i => ⟨i, rd rB42.toLoadRect (hiC I (peer 6 c)), k0_pay36 (st2 (pC2 I c) (pC3 I c))⟩)
    iprop(Ow c [7, 2, 5, 8] ∗ cred (tallyAt (sndCell 4 c) () (N 4)) ∗ past (sndCell 6 c) ∗ past (rcvCell 6 c) ∗ srcAny 6 c ∗ landed I 6 c ∗ oC c 2 2 (st2 (pC2 I c) (pC3 I c))) := by
  unfold Tr
  rw [part12_eq]; unfold k0_part12_skel
  simp only [Prog.lift, Prog.bind_op, Prog.bind_ret, Prog.pure_eq_ret]
  iintro ⟨#He, HO, Hb, Hl, Hkit, HwS6, HwR6, Hc⟩
  iapply (wp_upd 𝒱₀ (c : Thread nD τ) (m := acB) (fun _ => rfl)) $$ [Hb]
  · iapply (any_intro (c : Thread nD τ) _ fullShare (st2 (pB2 I c) (pB3 I c))); iexact Hb
  iintro Hb
  iapply (wp_xfer I K c 4 [7, 2, 5, 8] _ (dev8 c) src4 dst4 (midB I c) (by rfl) (by rfl) rfl (any_intro _ _ _ _) (BI.Entails.refl _) (got4 I c)) $$ [Hb Hl Hkit HO]
  · isplitr; · iexact He
    isplitl [Hb]; · iexact Hb
    isplitl [Hl]; · iexact Hl
    isplitl [Hkit]; · iexact Hkit
    iexact HO
  iintro ⟨Hcr, HO⟩
  iapply (wp_waitS I K c 6 [7, 2, 5, 8] (by rfl) (by rfl)) $$ [HO HwS6]
  · isplitr; · iexact He
    isplitl [HO]; · iexact HO
    iexact HwS6
  iintro ⟨HO, HpS6, Hs6⟩
  iapply (wp_waitR I K c 6 [7, 2, 5, 8] (by decide) (by rfl) (by rfl)) $$ [HO HwR6]
  · isplitr; · iexact He
    isplitl [HO]; · iexact HO
    iexact HwR6
  iintro ⟨HO, HpR6, Hd6⟩
  iapply (wp_ldr 𝒱₀ (c : Thread nD τ) (m := acC) (fun _ => rfl) fullShare (st2 (pC2 I c) (pC3 I c))) $$ Hc
  iintro Hc
  ihave Hd6 := (Entails.of_eq (landed6 I c)) $$ Hd6
  iapply (wp_ld 𝒱₀ (c : Thread nD τ) (m := dst6) fullShare (hiC I (peer 6 c))) $$ Hd6
  iintro Hd6
  ihave Hd6 := (Entails.of_eq (landed6 I c).symm) $$ Hd6
  rw [wp_ret]; imodintro
  iexists _; isplitr; · ipureintro; rfl
  isplitl [HO]; · iexact HO
  isplitl [Hcr]; · iexact Hcr
  isplitl [HpS6]; · iexact HpS6
  isplitl [HpR6]; · iexact HpR6
  isplitl [Hs6]; · iexact Hs6
  isplitl [Hd6]; · iexact Hd6
  iexact Hc

/-- The second transfer of group C; planes 0 and 1 of group A. -/
theorem tr13 (u : BitVec 32) : Tr (ι := BitVec 32) c
    iprop(env I K ∗ Ow c [7, 2, 5, 8] ∗ oC c 2 2 (st2 (pC2 I c) (pC3 I c)) ∗ landAny 7 (peer 7 c) ∗ sendKit 7 c ∗ oA c 0 2 (st2 (pA0 I c) (pA1 I c)) ∗ landed I 0 c ∗ oB c 0 2 (st2 (pB0 I c) (pB1 I c)) ∗ landed I 3 c)
    (part13 c u (rd rB42.toLoadRect (hiC I (peer 6 c))) (k0_pay36 (st2 (pC2 I c) (pC3 I c)))) (fun i => ⟨i, k0_pay39 (st2 (pB0 I c) (pB1 I c)) (rd rB40.toLoadRect (hiB I (peer 3 c)))⟩)
    iprop(Ow c [2, 5, 8] ∗ cred (tallyAt (sndCell 7 c) () (N 7)) ∗ oA c 0 2 (loA I c) ∗ landed I 0 c ∗ oB c 0 2 (st2 (pB0 I c) (pB1 I c)) ∗ landed I 3 c) := by
  unfold Tr
  rw [part13_eq]; unfold k0_part13_skel
  simp only [Prog.lift, Prog.bind_op, Prog.bind_ret, Prog.pure_eq_ret]
  iintro ⟨#He, HO, Hc, Hl, Hkit, Ha, Hd0, Hb, Hd3⟩
  iapply (wp_upd 𝒱₀ (c : Thread nD τ) (m := acC) (fun _ => rfl)) $$ [Hc]
  · iapply (any_intro (c : Thread nD τ) _ fullShare (st2 (pC2 I c) (pC3 I c))); iexact Hc
  iintro Hc
  iapply (wp_xfer I K c 7 [2, 5, 8] _ (dev9 c) src7 dst7 (midC I c) (by rfl) (by rfl) rfl (any_intro _ _ _ _) (BI.Entails.refl _) (got7 I c)) $$ [Hc Hl Hkit HO]
  · isplitr; · iexact He
    isplitl [Hc]; · iexact Hc
    isplitl [Hl]; · iexact Hl
    isplitl [Hkit]; · iexact Hkit
    iexact HO
  iintro ⟨Hcr, HO⟩
  iapply (wp_ldr 𝒱₀ (c : Thread nD τ) (m := acA) (fun _ => rfl) fullShare (st2 (pA0 I c) (pA1 I c))) $$ Ha
  iintro Ha
  ihave Hd0 := (Entails.of_eq (landed0 I c)) $$ Hd0
  iapply (wp_ld 𝒱₀ (c : Thread nD τ) (m := dst0) fullShare (hiA I (peer 0 c))) $$ Hd0
  iintro Hd0
  ihave Hd0 := (Entails.of_eq (landed0 I c).symm) $$ Hd0
  iapply (wp_upd 𝒱₀ (c : Thread nD τ) (m := acA) (fun _ => rfl)) $$ [Ha]
  · iapply (any_intro (c : Thread nD τ) _ fullShare (st2 (pA0 I c) (pA1 I c))); iexact Ha
  iintro Ha
  iapply (wp_ldr 𝒱₀ (c : Thread nD τ) (m := acB) (fun _ => rfl) fullShare (st2 (pB0 I c) (pB1 I c))) $$ Hb
  iintro Hb
  ihave Hd3 := (Entails.of_eq (landed3 I c)) $$ Hd3
  iapply (wp_ld 𝒱₀ (c : Thread nD τ) (m := dst3) fullShare (hiB I (peer 3 c))) $$ Hd3
  iintro Hd3
  ihave Hd3 := (Entails.of_eq (landed3 I c).symm) $$ Hd3
  rw [wp_ret]; imodintro
  iexists _; isplitr; · ipureintro; rfl
  isplitl [HO]; · iexact HO
  isplitl [Hcr]; · iexact Hcr
  isplitl [Ha]; · iexact Ha
  isplitl [Hd0]; · iexact Hd0
  isplitl [Hb]; · iexact Hb
  iexact Hd3

/-- Planes 0 and 1 of groups B and C; the second receipt of group A. -/
theorem tr14 (u : BitVec 32) : Tr (ι := Unit) c
    iprop(env I K ∗ Ow c [2, 5, 8] ∗ oB c 0 2 (st2 (pB0 I c) (pB1 I c)) ∗ oC c 0 2 (st2 (pC0 I c) (pC1 I c)) ∗ landed I 6 c ∗ waitKit (sndCell 1 c) (N 1) ∗ waitKit (rcvCell 1 c) (N 1) ∗ oA c 1 1 (sndP (loA I c)))
    (part14 u (k0_pay39 (st2 (pB0 I c) (pB1 I c)) (rd rB40.toLoadRect (hiB I (peer 3 c))))) (fun i => k0_pay42 (sndP (loA I c)) (rd rA21.toLoadRect (midA I (peer 1 c))))
    iprop(Ow c [2, 5, 8] ∗ oB c 0 2 (loB I c) ∗ oC c 0 2 (loC I c) ∗ landed I 6 c ∗ past (sndCell 1 c) ∗ past (rcvCell 1 c) ∗ srcAny 1 c ∗ landed I 1 c ∗ oA c 1 1 (sndP (loA I c))) := by
  unfold Tr
  rw [part14_eq]; unfold k0_part14_skel
  simp only [Prog.lift, Prog.bind_op, Prog.bind_ret, Prog.pure_eq_ret]
  iintro ⟨#He, HO, Hb, Hc, Hd6, HwS1, HwR1, Ha⟩
  iapply (wp_upd 𝒱₀ (c : Thread nD τ) (m := acB) (fun _ => rfl)) $$ [Hb]
  · iapply (any_intro (c : Thread nD τ) _ fullShare (st2 (pB0 I c) (pB1 I c))); iexact Hb
  iintro Hb
  iapply (wp_ldr 𝒱₀ (c : Thread nD τ) (m := acC) (fun _ => rfl) fullShare (st2 (pC0 I c) (pC1 I c))) $$ Hc
  iintro Hc
  ihave Hd6 := (Entails.of_eq (landed6 I c)) $$ Hd6
  iapply (wp_ld 𝒱₀ (c : Thread nD τ) (m := dst6) fullShare (hiC I (peer 6 c))) $$ Hd6
  iintro Hd6
  ihave Hd6 := (Entails.of_eq (landed6 I c).symm) $$ Hd6
  iapply (wp_upd 𝒱₀ (c : Thread nD τ) (m := acC) (fun _ => rfl)) $$ [Hc]
  · iapply (any_intro (c : Thread nD τ) _ fullShare (st2 (pC0 I c) (pC1 I c))); iexact Hc
  iintro Hc
  iapply (wp_waitS I K c 1 [2, 5, 8] (by rfl) (by rfl)) $$ [HO HwS1]
  · isplitr; · iexact He
    isplitl [HO]; · iexact HO
    iexact HwS1
  iintro ⟨HO, HpS1, Hs1⟩
  iapply (wp_waitR I K c 1 [2, 5, 8] (by decide) (by rfl) (by rfl)) $$ [HO HwR1]
  · isplitr; · iexact He
    isplitl [HO]; · iexact HO
    iexact HwR1
  iintro ⟨HO, HpR1, Hd1⟩
  iapply (wp_ldr 𝒱₀ (c : Thread nD τ) (m := acA) (fun _ => rfl) fullShare (sndP (loA I c))) $$ Ha
  iintro Ha
  ihave Hd1 := (Entails.of_eq (landed1 I c)) $$ Hd1
  iapply (wp_ld 𝒱₀ (c : Thread nD τ) (m := dst1) fullShare (midA I (peer 1 c))) $$ Hd1
  iintro Hd1
  ihave Hd1 := (Entails.of_eq (landed1 I c).symm) $$ Hd1
  rw [wp_ret]; imodintro
  iexists (); isplitr; · ipureintro; rfl
  isplitl [HO]; · iexact HO
  isplitl [Hb]; · iexact Hb
  isplitl [Hc]; · iexact Hc
  isplitl [Hd6]; · iexact Hd6
  isplitl [HpS1]; · iexact HpS1
  isplitl [HpR1]; · iexact HpR1
  isplitl [Hs1]; · iexact Hs1
  isplitl [Hd1]; · iexact Hd1
  iexact Ha

end Cert.KernelIdealProof

end
-- ==== Proof.Body4.lean ====
/-
Parts 15 to 19 of the body: the third transfers, plane 0, and the result.
-/
module

public import proofs.«01_k».proof.Proof.Parts

@[expose] public section

set_option maxRecDepth 16384

noncomputable section

namespace Cert.KernelIdealProof

open Cert.KernelIdeal Cert.KernelIdeal.Gen Cert.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × Fin 19 → ℕ) (c : Dev nD)

/-- The scales, as staged. -/
abbrev inA : sProp 𝕄 := owns (c : Thread nD τ) (Memref.whole cc0_stg2_0 : Memref sig .tc .smem S1 .f32) fullShare (I.a c)
abbrev inB : sProp 𝕄 := owns (c : Thread nD τ) (Memref.whole cc0_stg3_0 : Memref sig .tc .smem S1 .f32) fullShare (I.b c)

/-- The result's buffer and its three runs of columns. -/
abbrev outM : Memref sig .tc .vmem S512x2048 .f32 := Memref.whole cc0_stg4_0
abbrev rO0 : Rect S512x2048 := Rect.unit (s := S512x2048) ![0, 0] S512x768.size inb_S512x2048_S512x768_0_0
abbrev rO1 : Rect S512x2048 := Rect.unit (s := S512x2048) ![0, 768] S512x640.size inb_S512x2048_S512x640_0_768
abbrev rO2 : Rect S512x2048 := Rect.unit (s := S512x2048) ![0, 1408] S512x640.size inb_S512x2048_S512x640_0_1408
abbrev outR (r : Rect S512x2048) (hr : ∀ a, r.stride a = 1) : Memref sig .tc .vmem r.shape .f32 := outM.slice r hr

/-- The third transfer of group A, the second receipt of group B. -/
theorem tr15 (u : BitVec 32) (u' : BitVec 32) : Tr (ι := BitVec 32) c
    iprop(env I K ∗ Ow c [2, 5, 8] ∗ oA c 1 1 (sndP (loA I c)) ∗ landAny 2 (peer 2 c) ∗ sendKit 2 c ∗ waitKit (sndCell 4 c) (N 4) ∗ waitKit (rcvCell 4 c) (N 4) ∗ oB c 1 1 (sndP (loB I c)))
    (part15 c u u' (k0_pay42 (sndP (loA I c)) (rd rA21.toLoadRect (midA I (peer 1 c))))) (fun i => ⟨i, k0_pay44 (rd rB21.toLoadRect (midB I (peer 4 c))), k0_pay45 (sndP (loB I c))⟩)
    iprop(Ow c [5, 8] ∗ cred (tallyAt (sndCell 2 c) () (N 2)) ∗ past (sndCell 4 c) ∗ past (rcvCell 4 c) ∗ srcAny 4 c ∗ landed I 4 c ∗ oB c 1 1 (sndP (loB I c))) := by
  unfold Tr
  rw [part15_eq]; unfold k0_part15_skel
  simp only [Prog.lift, Prog.bind_op, Prog.bind_ret, Prog.pure_eq_ret]
  iintro ⟨#He, HO, Ha, Hl, Hkit, HwS4, HwR4, Hb⟩
  iapply (wp_upd 𝒱₀ (c : Thread nD τ) (m := acA) (fun _ => rfl)) $$ [Ha]
  · iapply (any_intro (c : Thread nD τ) _ fullShare (sndP (loA I c))); iexact Ha
  iintro Ha
  ihave Ha := (squeezeA I c) $$ [Ha]
  · iexact Ha
  iapply (wp_xfer I K c 2 [5, 8] _ (dev10 c) src2 dst2 (sqA I c) (by rfl) (by rfl) rfl (any_intro _ _ _ _) (BI.Entails.refl _) (got2 I c)) $$ [Ha Hl Hkit HO]
  · isplitr; · iexact He
    isplitl [Ha]; · iexact Ha
    isplitl [Hl]; · iexact Hl
    isplitl [Hkit]; · iexact Hkit
    iexact HO
  iintro ⟨Hcr, HO⟩
  iapply (wp_waitS I K c 4 [5, 8] (by rfl) (by rfl)) $$ [HO HwS4]
  · isplitr; · iexact He
    isplitl [HO]; · iexact HO
    iexact HwS4
  iintro ⟨HO, HpS4, Hs4⟩
  iapply (wp_waitR I K c 4 [5, 8] (by decide) (by rfl) (by rfl)) $$ [HO HwR4]
  · isplitr; · iexact He
    isplitl [HO]; · iexact HO
    iexact HwR4
  iintro ⟨HO, HpR4, Hd4⟩
  iapply (wp_ldr 𝒱₀ (c : Thread nD τ) (m := acB) (fun _ => rfl) fullShare (sndP (loB I c))) $$ Hb
  iintro Hb
  ihave Hd4 := (Entails.of_eq (landed4 I c)) $$ Hd4
  iapply (wp_ld 𝒱₀ (c : Thread nD τ) (m := dst4) fullShare (midB I (peer 4 c))) $$ Hd4
  iintro Hd4
  ihave Hd4 := (Entails.of_eq (landed4 I c).symm) $$ Hd4
  rw [wp_ret]; imodintro
  iexists _; isplitr; · ipureintro; rfl
  isplitl [HO]; · iexact HO
  isplitl [Hcr]; · iexact Hcr
  isplitl [HpS4]; · iexact HpS4
  isplitl [HpR4]; · iexact HpR4
  isplitl [Hs4]; · iexact Hs4
  isplitl [Hd4]; · iexact Hd4
  iexact Hb

/-- The third transfer of group B, the second receipt of group C. -/
theorem tr16 (u : BitVec 32) (u' : BitVec 32) : Tr (ι := BitVec 32) c
    iprop(env I K ∗ Ow c [5, 8] ∗ oB c 1 1 (sndP (loB I c)) ∗ landAny 5 (peer 5 c) ∗ sendKit 5 c ∗ waitKit (sndCell 7 c) (N 7) ∗ waitKit (rcvCell 7 c) (N 7) ∗ oC c 1 1 (sndP (loC I c)))
    (part16 c u u' (k0_pay44 (rd rB21.toLoadRect (midB I (peer 4 c)))) (k0_pay45 (sndP (loB I c)))) (fun i => ⟨i, k0_pay47 (sndP (loC I c)), rd rB21.toLoadRect (midC I (peer 7 c))⟩)
    iprop(Ow c [8] ∗ cred (tallyAt (sndCell 5 c) () (N 5)) ∗ past (sndCell 7 c) ∗ past (rcvCell 7 c) ∗ srcAny 7 c ∗ landed I 7 c ∗ oC c 1 1 (sndP (loC I c))) := by
  unfold Tr
  rw [part16_eq]; unfold k0_part16_skel
  simp only [Prog.lift, Prog.bind_op, Prog.bind_ret, Prog.pure_eq_ret]
  iintro ⟨#He, HO, Hb, Hl, Hkit, HwS7, HwR7, Hc⟩
  iapply (wp_upd 𝒱₀ (c : Thread nD τ) (m := acB) (fun _ => rfl)) $$ [Hb]
  · iapply (any_intro (c : Thread nD τ) _ fullShare (sndP (loB I c))); iexact Hb
  iintro Hb
  ihave Hb := (squeezeB I c) $$ [Hb]
  · iexact Hb
  iapply (wp_xfer I K c 5 [8] _ (dev11 c) src5 dst5 (sqB I c) (by rfl) (by rfl) rfl (any_intro _ _ _ _) (BI.Entails.refl _) (got5 I c)) $$ [Hb Hl Hkit HO]
  · isplitr; · iexact He
    isplitl [Hb]; · iexact Hb
    isplitl [Hl]; · iexact Hl
    isplitl [Hkit]; · iexact Hkit
    iexact HO
  iintro ⟨Hcr, HO⟩
  iapply (wp_waitS I K c 7 [8] (by rfl) (by rfl)) $$ [HO HwS7]
  · isplitr; · iexact He
    isplitl [HO]; · iexact HO
    iexact HwS7
  iintro ⟨HO, HpS7, Hs7⟩
  iapply (wp_waitR I K c 7 [8] (by decide) (by rfl) (by rfl)) $$ [HO HwR7]
  · isplitr; · iexact He
    isplitl [HO]; · iexact HO
    iexact HwR7
  iintro ⟨HO, HpR7, Hd7⟩
  iapply (wp_ldr 𝒱₀ (c : Thread nD τ) (m := acC) (fun _ => rfl) fullShare (sndP (loC I c))) $$ Hc
  iintro Hc
  ihave Hd7 := (Entails.of_eq (landed7 I c)) $$ Hd7
  iapply (wp_ld 𝒱₀ (c : Thread nD τ) (m := dst7) fullShare (midC I (peer 7 c))) $$ Hd7
  iintro Hd7
  ihave Hd7 := (Entails.of_eq (landed7 I c).symm) $$ Hd7
  rw [wp_ret]; imodintro
  iexists _; isplitr; · ipureintro; rfl
  isplitl [HO]; · iexact HO
  isplitl [Hcr]; · iexact Hcr
  isplitl [HpS7]; · iexact HpS7
  isplitl [HpR7]; · iexact HpR7
  isplitl [Hs7]; · iexact Hs7
  isplitl [Hd7]; · iexact Hd7
  iexact Hc

/-- The third transfer of group C; plane 0 of group A. -/
theorem tr17 (u : BitVec 32) : Tr (ι := BitVec 32) c
    iprop(env I K ∗ Ow c [8] ∗ oC c 1 1 (sndP (loC I c)) ∗ landAny 8 (peer 8 c) ∗ sendKit 8 c ∗ oA c 0 1 (fstP (loA I c)) ∗ landed I 1 c ∗ oB c 0 1 (fstP (loB I c)) ∗ landed I 4 c)
    (part17 c u (k0_pay47 (sndP (loC I c))) (rd rB21.toLoadRect (midC I (peer 7 c)))) (fun i => ⟨i, k0_pay50 (fstP (loB I c)), rd rB20.toLoadRect (midB I (peer 4 c))⟩)
    iprop(Ow c [] ∗ cred (tallyAt (sndCell 8 c) () (N 8)) ∗ oA c 0 1 (zeroA I c) ∗ landed I 1 c ∗ oB c 0 1 (fstP (loB I c)) ∗ landed I 4 c) := by
  unfold Tr
  rw [part17_eq]; unfold k0_part17_skel
  simp only [Prog.lift, Prog.bind_op, Prog.bind_ret, Prog.pure_eq_ret]
  iintro ⟨#He, HO, Hc, Hl, Hkit, Ha0, Hd1, Hb0, Hd4⟩
  iapply (wp_upd 𝒱₀ (c : Thread nD τ) (m := acC) (fun _ => rfl)) $$ [Hc]
  · iapply (any_intro (c : Thread nD τ) _ fullShare (sndP (loC I c))); iexact Hc
  iintro Hc
  ihave Hc := (squeezeC I c) $$ [Hc]
  · iexact Hc
  iapply (wp_xfer I K c 8 [] _ (dev12 c) src8 dst8 (sqC I c) (by rfl) (by rfl) rfl (any_intro _ _ _ _) (BI.Entails.refl _) (got8 I c)) $$ [Hc Hl Hkit HO]
  · isplitr; · iexact He
    isplitl [Hc]; · iexact Hc
    isplitl [Hl]; · iexact Hl
    isplitl [Hkit]; · iexact Hkit
    iexact HO
  iintro ⟨Hcr, HO⟩
  iapply (wp_ldr 𝒱₀ (c : Thread nD τ) (m := acA) (fun _ => rfl) fullShare (fstP (loA I c))) $$ Ha0
  iintro Ha0
  ihave Hd1 := (Entails.of_eq (landed1 I c)) $$ Hd1
  iapply (wp_ld 𝒱₀ (c : Thread nD τ) (m := dst1) fullShare (midA I (peer 1 c))) $$ Hd1
  iintro Hd1
  ihave Hd1 := (Entails.of_eq (landed1 I c).symm) $$ Hd1
  iapply (wp_upd 𝒱₀ (c : Thread nD τ) (m := acA) (fun _ => rfl)) $$ [Ha0]
  · iapply (any_intro (c : Thread nD τ) _ fullShare (fstP (loA I c))); iexact Ha0
  iintro Ha0
  iapply (wp_ldr 𝒱₀ (c : Thread nD τ) (m := acB) (fun _ => rfl) fullShare (fstP (loB I c))) $$ Hb0
  iintro Hb0
  ihave Hd4 := (Entails.of_eq (landed4 I c)) $$ Hd4
  iapply (wp_ld 𝒱₀ (c : Thread nD τ) (m := dst4) fullShare (midB I (peer 4 c))) $$ Hd4
  iintro Hd4
  ihave Hd4 := (Entails.of_eq (landed4 I c).symm) $$ Hd4
  rw [wp_ret]; imodintro
  iexists _; isplitr; · ipureintro; rfl
  isplitl [HO]; · iexact HO
  isplitl [Hcr]; · iexact Hcr
  isplitl [Ha0]; · iexact Ha0
  isplitl [Hd1]; · iexact Hd1
  isplitl [Hb0]; · iexact Hb0
  iexact Hd4

/-- Plane 0 of groups B and C, and the scale. -/
theorem tr18 (u : BitVec 32) : Tr (ι := Unit) c
    iprop(env I K ∗ Ow c [] ∗ oB c 0 1 (fstP (loB I c)) ∗ oC c 0 1 (fstP (loC I c)) ∗ landed I 7 c ∗ inA I c ∗ inB I c ∗ waitKit (sndCell 2 c) (N 2))
    (part18 u (k0_pay50 (fstP (loB I c))) (rd rB20.toLoadRect (midB I (peer 4 c)))) (fun i => scl I c)
    iprop(Ow c [] ∗ oB c 0 1 (zeroB I c) ∗ oC c 0 1 (zeroC I c) ∗ landed I 7 c ∗ inA I c ∗ inB I c ∗ past (sndCell 2 c) ∗ srcAny 2 c) := by
  unfold Tr
  rw [part18_eq]; unfold k0_part18_skel
  simp only [smemLoad, smemLoadElt, Prog.lift, Prog.bind_op, Prog.bind_ret, Prog.pure_eq_ret]
  iintro ⟨#He, HO, Hb0, Hc0, Hd7, HiA, HiB, HwS2⟩
  iapply (wp_upd 𝒱₀ (c : Thread nD τ) (m := acB) (fun _ => rfl)) $$ [Hb0]
  · iapply (any_intro (c : Thread nD τ) _ fullShare (fstP (loB I c))); iexact Hb0
  iintro Hb0
  iapply (wp_ldr 𝒱₀ (c : Thread nD τ) (m := acC) (fun _ => rfl) fullShare (fstP (loC I c))) $$ Hc0
  iintro Hc0
  ihave Hd7 := (Entails.of_eq (landed7 I c)) $$ Hd7
  iapply (wp_ld 𝒱₀ (c : Thread nD τ) (m := dst7) fullShare (midC I (peer 7 c))) $$ Hd7
  iintro Hd7
  ihave Hd7 := (Entails.of_eq (landed7 I c).symm) $$ Hd7
  iapply (wp_upd 𝒱₀ (c : Thread nD τ) (m := acC) (fun _ => rfl)) $$ [Hc0]
  · iapply (any_intro (c : Thread nD τ) _ fullShare (fstP (loC I c))); iexact Hc0
  iintro Hc0
  iapply (wp_ld 𝒱₀ (c : Thread nD τ) (m := Memref.whole cc0_stg2_0) fullShare (I.a c)) $$ HiA
  iintro HiA
  iapply (wp_ld 𝒱₀ (c : Thread nD τ) (m := Memref.whole cc0_stg3_0) fullShare (I.b c)) $$ HiB
  iintro HiB
  iapply (wp_waitS I K c 2 [] (by rfl) (by rfl)) $$ [HO HwS2]
  · isplitr; · iexact He
    isplitl [HO]; · iexact HO
    iexact HwS2
  iintro ⟨HO, HpS2, Hs2⟩
  rw [wp_ret]; imodintro
  iexists (); isplitr; · ipureintro; rfl
  isplitl [HO]; · iexact HO
  isplitl [Hb0]; · iexact Hb0
  isplitl [Hc0]; · iexact Hc0
  isplitl [Hd7]; · iexact Hd7
  isplitl [HiA]; · iexact HiA
  isplitl [HiB]; · iexact HiB
  isplitl [HpS2]; · iexact HpS2
  iexact Hs2

/-- The first run of the result's columns. -/
theorem tr19 (u : BitVec 32) : Tr (ι := Unit) c
    iprop(env I K ∗ Ow c [] ∗ waitKit (rcvCell 2 c) (N 2) ∗ oA c 0 1 (zeroA I c) ∗ any (c : Thread nD τ) (outR rO0 (fun _ => rfl)) fullShare ∗ waitKit (sndCell 5 c) (N 5) ∗ waitKit (rcvCell 5 c) (N 5) ∗ oB c 0 1 (zeroB I c))
    (part19 u (scl I c)) (fun i => outB I c)
    iprop(Ow c [] ∗ past (rcvCell 2 c) ∗ landed I 2 c ∗ oA c 0 1 (zeroA I c) ∗ owns (c : Thread nD τ) (outR rO0 (fun _ => rfl)) fullShare (outA I c) ∗ past (sndCell 5 c) ∗ srcAny 5 c ∗ past (rcvCell 5 c) ∗ landed I 5 c ∗ oB c 0 1 (zeroB I c)) := by
  unfold Tr
  rw [part19_eq]; unfold k0_part19_skel
  simp only [Prog.lift, Prog.bind_op, Prog.bind_ret, Prog.pure_eq_ret]
  iintro ⟨#He, HO, HwR2, Ha0, Hout, HwS5, HwR5, Hb0⟩
  iapply (wp_waitR I K c 2 [] (by decide) (by rfl) (by rfl)) $$ [HO HwR2]
  · isplitr; · iexact He
    isplitl [HO]; · iexact HO
    iexact HwR2
  iintro ⟨HO, HpR2, Hd2⟩
  iapply (wp_ldr 𝒱₀ (c : Thread nD τ) (m := acA) (fun _ => rfl) fullShare (zeroA I c)) $$ Ha0
  iintro Ha0
  ihave Hd2 := (Entails.of_eq (landed2 I c)) $$ Hd2
  iapply (wp_ld 𝒱₀ (c : Thread nD τ) (m := dst2) fullShare (sqA I (peer 2 c))) $$ Hd2
  iintro Hd2
  ihave Hd2 := (Entails.of_eq (landed2 I c).symm) $$ Hd2
  iapply (wp_upd 𝒱₀ (c : Thread nD τ) (m := outM) (fun _ => rfl)) $$ Hout
  iintro Hout
  iapply (wp_waitS I K c 5 [] (by rfl) (by rfl)) $$ [HO HwS5]
  · isplitr; · iexact He
    isplitl [HO]; · iexact HO
    iexact HwS5
  iintro ⟨HO, HpS5, Hs5⟩
  iapply (wp_waitR I K c 5 [] (by decide) (by rfl) (by rfl)) $$ [HO HwR5]
  · isplitr; · iexact He
    isplitl [HO]; · iexact HO
    iexact HwR5
  iintro ⟨HO, HpR5, Hd5⟩
  iapply (wp_ldr 𝒱₀ (c : Thread nD τ) (m := acB) (fun _ => rfl) fullShare (zeroB I c)) $$ Hb0
  iintro Hb0
  ihave Hd5 := (Entails.of_eq (landed5 I c)) $$ Hd5
  iapply (wp_ld 𝒱₀ (c : Thread nD τ) (m := dst5) fullShare (sqB I (peer 5 c))) $$ Hd5
  iintro Hd5
  ihave Hd5 := (Entails.of_eq (landed5 I c).symm) $$ Hd5
  rw [wp_ret]; imodintro
  iexists (); isplitr; · ipureintro; rfl
  isplitl [HO]; · iexact HO
  isplitl [HpR2]; · iexact HpR2
  isplitl [Hd2]; · iexact Hd2
  isplitl [Ha0]; · iexact Ha0
  isplitl [Hout]; · iexact Hout
  isplitl [HpS5]; · iexact HpS5
  isplitl [Hs5]; · iexact Hs5
  isplitl [HpR5]; · iexact HpR5
  isplitl [Hd5]; · iexact Hd5
  iexact Hb0

end Cert.KernelIdealProof

end
-- ==== Proof.Body5.lean ====
/-
The whole body: its printed parts one after another, and the last run of
columns.
-/
module

public import proofs.«01_k».proof.Proof.Body1
public import proofs.«01_k».proof.Proof.Body2
public import proofs.«01_k».proof.Proof.Body3
public import proofs.«01_k».proof.Proof.Body4

@[expose] public section

set_option maxRecDepth 16384

noncomputable section

namespace Cert.KernelIdealProof

open Cert.KernelIdeal Cert.KernelIdeal.Gen Cert.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × Fin 19 → ℕ) (c : Dev nD)

/-! ## What the body starts with and ends with -/

/-- The duties of the three neighbours' barriers, and this device's landing buffers. -/
def preBar : sProp 𝕄 :=
  iprop((dutyTok ER (barCell (px 0 c)) 0 (0 : Fin 3) ∗ dutyTok ER (barCell (px 1 c)) 0 (1 : Fin 3) ∗ dutyTok ER (barCell (px 2 c)) 0 (2 : Fin 3))
    ∗ (barPay 0 c ∗ barPay 1 c ∗ barPay 2 c) ∗ waitKit (barCell c) 3)
/-- The nine transfers' duties. -/
def preSend : sProp 𝕄 := iprop(sendKit 0 c ∗ sendKit 1 c ∗ sendKit 2 c ∗ sendKit 3 c ∗ sendKit 4 c ∗ sendKit 5 c ∗ sendKit 6 c ∗ sendKit 7 c ∗ sendKit 8 c)
/-- The positions at the nine send cells. -/
def preAt : sProp 𝕄 := iprop(atPos ER (sndCell 0 c) 0 (∅ : Finset (Fin 3)) 0 ∗ atPos ER (sndCell 1 c) 0 (∅ : Finset (Fin 3)) 0 ∗ atPos ER (sndCell 2 c) 0 (∅ : Finset (Fin 3)) 0 ∗ atPos ER (sndCell 3 c) 0 (∅ : Finset (Fin 3)) 0 ∗ atPos ER (sndCell 4 c) 0 (∅ : Finset (Fin 3)) 0 ∗ atPos ER (sndCell 5 c) 0 (∅ : Finset (Fin 3)) 0 ∗ atPos ER (sndCell 6 c) 0 (∅ : Finset (Fin 3)) 0 ∗ atPos ER (sndCell 7 c) 0 (∅ : Finset (Fin 3)) 0 ∗ atPos ER (sndCell 8 c) 0 (∅ : Finset (Fin 3)) 0)
/-- What the nine receive cells' waits take. -/
def preRecv : sProp 𝕄 := iprop(waitKit (rcvCell 0 c) (N 0) ∗ waitKit (rcvCell 1 c) (N 1) ∗ waitKit (rcvCell 2 c) (N 2) ∗ waitKit (rcvCell 3 c) (N 3) ∗ waitKit (rcvCell 4 c) (N 4) ∗ waitKit (rcvCell 5 c) (N 5) ∗ waitKit (rcvCell 6 c) (N 6) ∗ waitKit (rcvCell 7 c) (N 7) ∗ waitKit (rcvCell 8 c) (N 8))
/-- The inputs, as staged. -/
def ins : sProp 𝕄 := iprop(inX c I ∗ inW c I ∗ inA I c ∗ inB I c)
/-- The planes of accumulator A, at any contents. -/
def planesA : sProp 𝕄 := iprop(fA c 0 1 ∗ fA c 1 1 ∗ fA c 2 1 ∗ fA c 3 1 ∗ fA c 4 1 ∗ fA c 5 1 ∗ fA c 6 1 ∗ fA c 7 1)
/-- The planes of accumulator B, at any contents. -/
def planesB : sProp 𝕄 := iprop(fB c 0 1 ∗ fB c 1 1 ∗ fB c 2 1 ∗ fB c 3 1 ∗ fB c 4 1 ∗ fB c 5 1 ∗ fB c 6 1 ∗ fB c 7 1)
/-- The planes of accumulator C, at any contents. -/
def planesC : sProp 𝕄 := iprop(fC c 0 1 ∗ fC c 1 1 ∗ fC c 2 1 ∗ fC c 3 1 ∗ fC c 4 1 ∗ fC c 5 1 ∗ fC c 6 1 ∗ fC c 7 1)
/-- The result's three runs of columns, at any contents. -/
def outs : sProp 𝕄 := iprop(any (c : Thread nD τ) (outR rO0 (fun _ => rfl)) fullShare ∗ any (c : Thread nD τ) (outR rO1 (fun _ => rfl)) fullShare
  ∗ any (c : Thread nD τ) (outR rO2 (fun _ => rfl)) fullShare)

/-- Every cell is past its round. -/
def pasts : sProp 𝕄 := iprop(past (barCell c) ∗ past (sndCell 0 c) ∗ past (sndCell 1 c) ∗ past (sndCell 2 c) ∗ past (sndCell 3 c) ∗ past (sndCell 4 c) ∗ past (sndCell 5 c) ∗ past (sndCell 6 c) ∗ past (sndCell 7 c) ∗ past (sndCell 8 c) ∗ past (rcvCell 0 c) ∗ past (rcvCell 1 c) ∗ past (rcvCell 2 c) ∗ past (rcvCell 3 c) ∗ past (rcvCell 4 c) ∗ past (rcvCell 5 c) ∗ past (rcvCell 6 c) ∗ past (rcvCell 7 c) ∗ past (rcvCell 8 c))
/-- The landing buffers hold what was sent. -/
def lands : sProp 𝕄 := iprop(landed I 0 c ∗ landed I 1 c ∗ landed I 2 c ∗ landed I 3 c ∗ landed I 4 c ∗ landed I 5 c ∗ landed I 6 c ∗ landed I 7 c ∗ landed I 8 c)
/-- The sources are back. -/
def srcs : sProp 𝕄 := iprop(srcAny 0 c ∗ srcAny 1 c ∗ srcAny 2 c ∗ srcAny 3 c ∗ srcAny 4 c ∗ srcAny 5 c ∗ srcAny 6 c ∗ srcAny 7 c ∗ srcAny 8 c)
/-- The accumulators' planes 0. -/
def zeros : sProp 𝕄 := iprop(oA c 0 1 (zeroA I c) ∗ oB c 0 1 (zeroB I c) ∗ oC c 0 1 (zeroC I c))

/-- What the body starts with, and what it ends with but for the result. -/
def bodyStart : sProp 𝕄 :=
  iprop(env I K ∗ Owed c (O₀ c) ∗ preBar c ∗ preSend c ∗ preAt c ∗ preRecv c ∗ ins I c ∗ planesA c ∗ planesB c ∗ planesC c ∗ outs c)
/-- What a device holds at the end of its body besides the result. -/
def bodyRest : sProp 𝕄 := iprop(Ow c [] ∗ pasts c ∗ lands I c ∗ srcs c ∗ zeros I c ∗ ins I c)

omit [FloatOps F] in
/-- What a wait takes: the credit, and the position. -/
theorem kit_intro (g : GSem nD τ sig) (n : ℕ) :
    iprop(cred (tallyAt g () n) ∗ atPos ER g 0 (∅ : Finset (Fin 3)) 0) ⊢ (waitKit g n : sProp 𝕄) := Entails.of_eq rfl
/-- What a neighbour's barrier signal hands over, spelled out. -/
theorem barPay0 (d : Dev nD) : barPay (F := F) 0 d = iprop(landAny 0 d ∗ landAny 5 d ∗ landAny 7 d) := rfl
@[inherit_doc barPay0] theorem barPay1 (d : Dev nD) : barPay (F := F) 1 d = iprop(landAny 1 d ∗ landAny 3 d ∗ landAny 8 d) := rfl
@[inherit_doc barPay0] theorem barPay2 (d : Dev nD) : barPay (F := F) 2 d = iprop(landAny 2 d ∗ landAny 4 d ∗ landAny 6 d) := rfl

set_option maxHeartbeats 1600000 in
/-- The printed parts, to the third run of columns. -/
theorem tr20 : Tr (ι := Unit) c (bodyStart I K c) part20 (fun _ => outC I c)
    iprop(bodyRest I c ∗ owns (c : Thread nD τ) (outR rO0 (fun _ => rfl)) fullShare (outA I c)
      ∗ owns (c : Thread nD τ) (outR rO1 (fun _ => rfl)) fullShare (outB I c)
      ∗ any (c : Thread nD τ) (outR rO2 (fun _ => rfl)) fullShare) := by
  unfold Tr
  rw [part20_eq]; unfold k0_part20_skel
  unfold bodyStart preBar preSend preAt preRecv ins planesA planesB planesC outs
  iintro ⟨#He, HO, ⟨Htoks, Hpays, HwB⟩, ⟨Hkit0, Hkit1, Hkit2, Hkit3, Hkit4, Hkit5, Hkit6, Hkit7, Hkit8⟩, ⟨Hat0, Hat1, Hat2, Hat3, Hat4, Hat5, Hat6, Hat7, Hat8⟩, ⟨HwR0, HwR1, HwR2, HwR3, HwR4, HwR5, HwR6, HwR7, HwR8⟩, ⟨Hx, Hw, HiA, HiB⟩, ⟨HpA0, HpA1, HpA2, HpA3, HpA4, HpA5, HpA6, HpA7⟩, ⟨HpB0, HpB1, HpB2, HpB3, HpB4, HpB5, HpB6, HpB7⟩, ⟨HpC0, HpC1, HpC2, HpC3, HpC4, HpC5, HpC6, HpC7⟩, ⟨Ho0, Ho1, Ho2⟩⟩
  iapply (wp_tr (tr1 I K c)) $$ [HO Htoks Hpays HwB Hx Hw HpA4]
  · isplitr; · iexact He
    isplitl [HO]; · iexact HO
    isplitl [Htoks]; · iexact Htoks
    isplitl [Hpays]; · iexact Hpays
    isplitl [HwB]; · iexact HwB
    isplitl [Hx]; · iexact Hx
    isplitl [Hw]; · iexact Hw
    iexact HpA4
  iintro %i ⟨HO, HpB, ⟨Hb0, Hb1, Hb2⟩, Hx, Hw, HpA4⟩
  ihave Hb0 := (Entails.of_eq (barPay0 (F := F) (px 0 c))) $$ Hb0
  icases Hb0 with ⟨Hl0, Hl5, Hl7⟩
  ihave Hb1 := (Entails.of_eq (barPay1 (F := F) (px 1 c))) $$ Hb1
  icases Hb1 with ⟨Hl1, Hl3, Hl8⟩
  ihave Hb2 := (Entails.of_eq (barPay2 (F := F) (px 2 c))) $$ Hb2
  icases Hb2 with ⟨Hl2, Hl4, Hl6⟩
  iapply (wp_tr (tr2 I c _ _)) $$ [Hx HpA5 HpA6 HpA7]
  · isplitl [Hx]; · iexact Hx
    isplitl [HpA5]; · iexact HpA5
    isplitl [HpA6]; · iexact HpA6
    iexact HpA7
  iintro %i ⟨Hx, HpA5, HpA6, HpA7⟩
  ihave HA := (joinA4 c (pA4 I c) (pA5 I c) (pA6 I c) (pA7 I c)) $$ [HpA4 HpA5 HpA6 HpA7]
  · isplitl [HpA4]; · iexact HpA4
    isplitl [HpA5]; · iexact HpA5
    isplitl [HpA6]; · iexact HpA6
    iexact HpA7
  iapply (wp_tr (tr3 I K c _ _)) $$ [HO Hx HA Hl0 Hkit0 HpB4 HpB5]
  · isplitr; · iexact He
    isplitl [HO]; · iexact HO
    isplitl [Hx]; · iexact Hx
    isplitl [HA]; · iexact HA
    isplitl [Hl0]; · iexact Hl0
    isplitl [Hkit0]; · iexact Hkit0
    isplitl [HpB4]; · iexact HpB4
    iexact HpB5
  iintro %i ⟨Hcr, HO, Hx, HpB4, HpB5⟩
  ihave HwS0 := (kit_intro (F := F) (sndCell 0 c) (N 0)) $$ [Hcr Hat0]
  · isplitl [Hcr]; · iexact Hcr
    iexact Hat0
  iapply (wp_tr (tr4 I K c _ _)) $$ [HO Hx HpB4 HpB5 HpB6 HpB7 Hl3 Hkit3]
  · isplitr; · iexact He
    isplitl [HO]; · iexact HO
    isplitl [Hx]; · iexact Hx
    isplitl [HpB4]; · iexact HpB4
    isplitl [HpB5]; · iexact HpB5
    isplitl [HpB6]; · iexact HpB6
    isplitl [HpB7]; · iexact HpB7
    isplitl [Hl3]; · iexact Hl3
    iexact Hkit3
  iintro %i ⟨Hcr, HO, Hx⟩
  ihave HwS3 := (kit_intro (F := F) (sndCell 3 c) (N 3)) $$ [Hcr Hat3]
  · isplitl [Hcr]; · iexact Hcr
    iexact Hat3
  iapply (wp_tr (tr5 I c _)) $$ [Hx HpC4 HpC5 HpC6]
  · isplitl [Hx]; · iexact Hx
    isplitl [HpC4]; · iexact HpC4
    isplitl [HpC5]; · iexact HpC5
    iexact HpC6
  iintro %i ⟨Hx, HpC4, HpC5, HpC6⟩
  iapply (wp_tr (tr6 I K c _)) $$ [HO Hx HpC4 HpC5 HpC6 HpC7 Hl6 Hkit6 HpA0]
  · isplitr; · iexact He
    isplitl [HO]; · iexact HO
    isplitl [Hx]; · iexact Hx
    isplitl [HpC4]; · iexact HpC4
    isplitl [HpC5]; · iexact HpC5
    isplitl [HpC6]; · iexact HpC6
    isplitl [HpC7]; · iexact HpC7
    isplitl [Hl6]; · iexact Hl6
    isplitl [Hkit6]; · iexact Hkit6
    iexact HpA0
  iintro %i ⟨Hcr, HO, Hx, HpA0⟩
  ihave HwS6 := (kit_intro (F := F) (sndCell 6 c) (N 6)) $$ [Hcr Hat6]
  · isplitl [Hcr]; · iexact Hcr
    iexact Hat6
  iapply (wp_tr (tr7 I c _)) $$ [Hx HpA1 HpA2 HpA3]
  · isplitl [Hx]; · iexact Hx
    isplitl [HpA1]; · iexact HpA1
    isplitl [HpA2]; · iexact HpA2
    iexact HpA3
  iintro %i ⟨Hx, HpA1, HpA2, HpA3⟩
  ihave HA2 := (joinA2 c (pA2 I c) (pA3 I c)) $$ [HpA2 HpA3]
  · isplitl [HpA2]; · iexact HpA2
    iexact HpA3
  ihave HA0 := (joinA0 c (pA0 I c) (pA1 I c)) $$ [HpA0 HpA1]
  · isplitl [HpA0]; · iexact HpA0
    iexact HpA1
  iapply (wp_tr (tr8 I c _)) $$ [Hx HpB0 HpB1 HpB2]
  · isplitl [Hx]; · iexact Hx
    isplitl [HpB0]; · iexact HpB0
    isplitl [HpB1]; · iexact HpB1
    iexact HpB2
  iintro %i ⟨Hx, HpB0, HpB1, HpB2⟩
  iapply (wp_tr (tr9 I c _)) $$ [Hx HpB3 HpC0 HpC1]
  · isplitl [Hx]; · iexact Hx
    isplitl [HpB3]; · iexact HpB3
    isplitl [HpC0]; · iexact HpC0
    iexact HpC1
  iintro %i ⟨Hx, HpB3, HpC0, HpC1⟩
  ihave HB2 := (joinB2 c (pB2 I c) (pB3 I c)) $$ [HpB2 HpB3]
  · isplitl [HpB2]; · iexact HpB2
    iexact HpB3
  ihave HB0 := (joinB0 c (pB0 I c) (pB1 I c)) $$ [HpB0 HpB1]
  · isplitl [HpB0]; · iexact HpB0
    iexact HpB1
  iapply (wp_tr (tr10 I K c _ _)) $$ [HO Hx HpC2 HpC3 HwS0 HwR0 HA2]
  · isplitr; · iexact He
    isplitl [HO]; · iexact HO
    isplitl [Hx]; · iexact Hx
    isplitl [HpC2]; · iexact HpC2
    isplitl [HpC3]; · iexact HpC3
    isplitl [HwS0]; · iexact HwS0
    isplitl [HwR0]; · iexact HwR0
    iexact HA2
  iintro %i ⟨HO, HpS0, HpR0, Hs0, Hd0, Hx, HpC2, HpC3, HA2⟩
  ihave HC2 := (joinC2 c (pC2 I c) (pC3 I c)) $$ [HpC2 HpC3]
  · isplitl [HpC2]; · iexact HpC2
    iexact HpC3
  ihave HC0 := (joinC0 c (pC0 I c) (pC1 I c)) $$ [HpC0 HpC1]
  · isplitl [HpC0]; · iexact HpC0
    iexact HpC1
  iapply (wp_tr (tr11 I K c _ _)) $$ [HO Hd0 HA2 Hl1 Hkit1 HwS3 HwR3 HB2]
  · isplitr; · iexact He
    isplitl [HO]; · iexact HO
    isplitl [Hd0]; · iexact Hd0
    isplitl [HA2]; · iexact HA2
    isplitl [Hl1]; · iexact Hl1
    isplitl [Hkit1]; · iexact Hkit1
    isplitl [HwS3]; · iexact HwS3
    isplitl [HwR3]; · iexact HwR3
    iexact HB2
  iintro %i ⟨HO, Hd0, Hcr, HpS3, HpR3, Hs3, Hd3, HB2⟩
  ihave HwS1 := (kit_intro (F := F) (sndCell 1 c) (N 1)) $$ [Hcr Hat1]
  · isplitl [Hcr]; · iexact Hcr
    iexact Hat1
  iapply (wp_tr (tr12 I K c _ _)) $$ [HO HB2 Hl4 Hkit4 HwS6 HwR6 HC2]
  · isplitr; · iexact He
    isplitl [HO]; · iexact HO
    isplitl [HB2]; · iexact HB2
    isplitl [Hl4]; · iexact Hl4
    isplitl [Hkit4]; · iexact Hkit4
    isplitl [HwS6]; · iexact HwS6
    isplitl [HwR6]; · iexact HwR6
    iexact HC2
  iintro %i ⟨HO, Hcr, HpS6, HpR6, Hs6, Hd6, HC2⟩
  ihave HwS4 := (kit_intro (F := F) (sndCell 4 c) (N 4)) $$ [Hcr Hat4]
  · isplitl [Hcr]; · iexact Hcr
    iexact Hat4
  iapply (wp_tr (tr13 I K c _)) $$ [HO HC2 Hl7 Hkit7 HA0 Hd0 HB0 Hd3]
  · isplitr; · iexact He
    isplitl [HO]; · iexact HO
    isplitl [HC2]; · iexact HC2
    isplitl [Hl7]; · iexact Hl7
    isplitl [Hkit7]; · iexact Hkit7
    isplitl [HA0]; · iexact HA0
    isplitl [Hd0]; · iexact Hd0
    isplitl [HB0]; · iexact HB0
    iexact Hd3
  iintro %i ⟨HO, Hcr, HA0, Hd0, HB0, Hd3⟩
  ihave HwS7 := (kit_intro (F := F) (sndCell 7 c) (N 7)) $$ [Hcr Hat7]
  · isplitl [Hcr]; · iexact Hcr
    iexact Hat7
  ihave HA := (splitA0 c (loA I c)) $$ [HA0]
  · iexact HA0
  icases HA with ⟨HzA, HA1⟩
  iapply (wp_tr (tr14 I K c _)) $$ [HO HB0 HC0 Hd6 HwS1 HwR1 HA1]
  · isplitr; · iexact He
    isplitl [HO]; · iexact HO
    isplitl [HB0]; · iexact HB0
    isplitl [HC0]; · iexact HC0
    isplitl [Hd6]; · iexact Hd6
    isplitl [HwS1]; · iexact HwS1
    isplitl [HwR1]; · iexact HwR1
    iexact HA1
  iintro %i ⟨HO, HB0, HC0, Hd6, HpS1, HpR1, Hs1, Hd1, HA1⟩
  ihave HB := (splitB0 c (loB I c)) $$ [HB0]
  · iexact HB0
  icases HB with ⟨HzB, HB1⟩
  ihave HC := (splitC0 c (loC I c)) $$ [HC0]
  · iexact HC0
  icases HC with ⟨HzC, HC1⟩
  iapply (wp_tr (tr15 I K c _ _)) $$ [HO HA1 Hl2 Hkit2 HwS4 HwR4 HB1]
  · isplitr; · iexact He
    isplitl [HO]; · iexact HO
    isplitl [HA1]; · iexact HA1
    isplitl [Hl2]; · iexact Hl2
    isplitl [Hkit2]; · iexact Hkit2
    isplitl [HwS4]; · iexact HwS4
    isplitl [HwR4]; · iexact HwR4
    iexact HB1
  iintro %i ⟨HO, Hcr, HpS4, HpR4, Hs4, Hd4, HB1⟩
  ihave HwS2 := (kit_intro (F := F) (sndCell 2 c) (N 2)) $$ [Hcr Hat2]
  · isplitl [Hcr]; · iexact Hcr
    iexact Hat2
  iapply (wp_tr (tr16 I K c _ _)) $$ [HO HB1 Hl5 Hkit5 HwS7 HwR7 HC1]
  · isplitr; · iexact He
    isplitl [HO]; · iexact HO
    isplitl [HB1]; · iexact HB1
    isplitl [Hl5]; · iexact Hl5
    isplitl [Hkit5]; · iexact Hkit5
    isplitl [HwS7]; · iexact HwS7
    isplitl [HwR7]; · iexact HwR7
    iexact HC1
  iintro %i ⟨HO, Hcr, HpS7, HpR7, Hs7, Hd7, HC1⟩
  ihave HwS5 := (kit_intro (F := F) (sndCell 5 c) (N 5)) $$ [Hcr Hat5]
  · isplitl [Hcr]; · iexact Hcr
    iexact Hat5
  iapply (wp_tr (tr17 I K c _)) $$ [HO HC1 Hl8 Hkit8 HzA Hd1 HzB Hd4]
  · isplitr; · iexact He
    isplitl [HO]; · iexact HO
    isplitl [HC1]; · iexact HC1
    isplitl [Hl8]; · iexact Hl8
    isplitl [Hkit8]; · iexact Hkit8
    isplitl [HzA]; · iexact HzA
    isplitl [Hd1]; · iexact Hd1
    isplitl [HzB]; · iexact HzB
    iexact Hd4
  iintro %i ⟨HO, Hcr, HzA, Hd1, HzB, Hd4⟩
  ihave HwS8 := (kit_intro (F := F) (sndCell 8 c) (N 8)) $$ [Hcr Hat8]
  · isplitl [Hcr]; · iexact Hcr
    iexact Hat8
  iapply (wp_tr (tr18 I K c _)) $$ [HO HzB HzC Hd7 HiA HiB HwS2]
  · isplitr; · iexact He
    isplitl [HO]; · iexact HO
    isplitl [HzB]; · iexact HzB
    isplitl [HzC]; · iexact HzC
    isplitl [Hd7]; · iexact Hd7
    isplitl [HiA]; · iexact HiA
    isplitl [HiB]; · iexact HiB
    iexact HwS2
  iintro %i ⟨HO, HzB, HzC, Hd7, HiA, HiB, HpS2, Hs2⟩
  iapply (wp_tr (tr19 I K c _)) $$ [HO HwR2 HzA Ho0 HwS5 HwR5 HzB]
  · isplitr; · iexact He
    isplitl [HO]; · iexact HO
    isplitl [HwR2]; · iexact HwR2
    isplitl [HzA]; · iexact HzA
    isplitl [Ho0]; · iexact Ho0
    isplitl [HwS5]; · iexact HwS5
    isplitl [HwR5]; · iexact HwR5
    iexact HzB
  iintro %i ⟨HO, HpR2, Hd2, HzA, Ho0, HpS5, Hs5, HpR5, Hd5, HzB⟩
  simp only [Prog.lift, Prog.bind_op, Prog.bind_ret, Prog.pure_eq_ret]
  iapply (wp_upd 𝒱₀ (c : Thread nD τ) (m := outM) (fun _ => rfl)) $$ Ho1
  iintro Ho1
  iapply (wp_waitS I K c 8 [] (by rfl) (by rfl)) $$ [HO HwS8]
  · isplitr; · iexact He
    isplitl [HO]; · iexact HO
    iexact HwS8
  iintro ⟨HO, HpS8, Hs8⟩
  iapply (wp_waitR I K c 8 [] (by decide) (by rfl) (by rfl)) $$ [HO HwR8]
  · isplitr; · iexact He
    isplitl [HO]; · iexact HO
    iexact HwR8
  iintro ⟨HO, HpR8, Hd8⟩
  iapply (wp_ldr 𝒱₀ (c : Thread nD τ) (m := acC) (fun _ => rfl) fullShare (zeroC I c)) $$ HzC
  iintro HzC
  ihave Hd8 := (Entails.of_eq (landed8 I c)) $$ Hd8
  iapply (wp_ld 𝒱₀ (c : Thread nD τ) (m := dst8) fullShare (sqC I (peer 8 c))) $$ Hd8
  iintro Hd8
  ihave Hd8 := (Entails.of_eq (landed8 I c).symm) $$ Hd8
  rw [wp_ret]; imodintro
  iexists (); isplitr; · ipureintro; rfl
  unfold bodyRest pasts lands srcs zeros ins
  isplitr [Ho0 Ho1 Ho2]
  · isplitl [HO]; · iexact HO
    isplitl [HpB HpS0 HpS1 HpS2 HpS3 HpS4 HpS5 HpS6 HpS7 HpS8 HpR0 HpR1 HpR2 HpR3 HpR4 HpR5 HpR6 HpR7 HpR8]
    · isplitl [HpB]; · iexact HpB
      isplitl [HpS0]; · iexact HpS0
      isplitl [HpS1]; · iexact HpS1
      isplitl [HpS2]; · iexact HpS2
      isplitl [HpS3]; · iexact HpS3
      isplitl [HpS4]; · iexact HpS4
      isplitl [HpS5]; · iexact HpS5
      isplitl [HpS6]; · iexact HpS6
      isplitl [HpS7]; · iexact HpS7
      isplitl [HpS8]; · iexact HpS8
      isplitl [HpR0]; · iexact HpR0
      isplitl [HpR1]; · iexact HpR1
      isplitl [HpR2]; · iexact HpR2
      isplitl [HpR3]; · iexact HpR3
      isplitl [HpR4]; · iexact HpR4
      isplitl [HpR5]; · iexact HpR5
      isplitl [HpR6]; · iexact HpR6
      isplitl [HpR7]; · iexact HpR7
      iexact HpR8
    isplitl [Hd0 Hd1 Hd2 Hd3 Hd4 Hd5 Hd6 Hd7 Hd8]
    · isplitl [Hd0]; · iexact Hd0
      isplitl [Hd1]; · iexact Hd1
      isplitl [Hd2]; · iexact Hd2
      isplitl [Hd3]; · iexact Hd3
      isplitl [Hd4]; · iexact Hd4
      isplitl [Hd5]; · iexact Hd5
      isplitl [Hd6]; · iexact Hd6
      isplitl [Hd7]; · iexact Hd7
      iexact Hd8
    isplitl [Hs0 Hs1 Hs2 Hs3 Hs4 Hs5 Hs6 Hs7 Hs8]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      iexact Hs8
    isplitl [HzA HzB HzC]
    · isplitl [HzA]; · iexact HzA
      isplitl [HzB]; · iexact HzB
      iexact HzC
    isplitl [Hx]; · iexact Hx
    isplitl [Hw]; · iexact Hw
    isplitl [HiA]; · iexact HiA
    iexact HiB
  · isplitl [Ho0]; · iexact Ho0
    isplitl [Ho1]; · iexact Ho1
    iexact Ho2

/-- The body on the kernel's buffers. -/
abbrev body := cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13

/-- The whole body. -/
theorem trBody : Tr (ι := Unit) c (bodyStart I K c) body (fun _ => ⟨⟩)
    iprop(bodyRest I c ∗ owns (c : Thread nD τ) (outR rO0 (fun _ => rfl)) fullShare (outA I c)
      ∗ owns (c : Thread nD τ) (outR rO1 (fun _ => rfl)) fullShare (outB I c)
      ∗ owns (c : Thread nD τ) (outR rO2 (fun _ => rfl)) fullShare (outC I c)) := by
  unfold Tr body
  rw [cc0_body_eq_skeleton]; unfold cc0_body_skel
  iintro H
  iapply (wp_tr (tr20 I K c)) $$ [H]
  · iexact H
  iintro %i ⟨Hr, Ho0, Ho1, Ho2⟩
  simp only [Prog.lift, Prog.bind_op, Prog.bind_ret, Prog.pure_eq_ret]
  iapply (wp_upd 𝒱₀ (c : Thread nD τ) (m := outM) (fun _ => rfl)) $$ Ho2
  iintro Ho2
  rw [wp_ret]; imodintro
  iexists (); isplitr; · ipureintro; trivial
  · isplitl [Hr]; · iexact Hr
    isplitl [Ho0]; · iexact Ho0
    isplitl [Ho1]; · iexact Ho1
    iexact Ho2

end Cert.KernelIdealProof

end
-- ==== Proof.Buf.lean ====
/-
The buffers cut into the pieces the body works on, and put together again.
-/
module

public import proofs.«01_k».proof.Proof.Body5

@[expose] public section

set_option maxRecDepth 16384

noncomputable section

namespace Cert.KernelIdealProof

open Cert.KernelIdeal Cert.KernelIdeal.Gen Cert.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section General

variable {nD : Nat} {τ : Topo} {sig : RefSig} {Val : EltTy → Type}
variable {Ix : Type} [DecidableEq Ix] {Name : Type} [DecidableEq Name] {U : Type} [URA U] {Lvl : Type}

/-- A whole buffer held at some contents. -/
theorem any_buf (c : Thread nD τ) (b : Ref sig c.2.kind) (q : PosShare TreeShare) :
    (any c (Memref.whole b) q : sProp (MT nD τ sig Ix Val Name U Lvl)) = iprop(∃ f, (c.loc b) ↦{q} f) := by
  have h₁ : (any c (Memref.whole b) q : sProp (MT nD τ sig Ix Val Name U Lvl)) ⊢ iprop(∃ f, (c.loc b) ↦{q} f) := by
    unfold any owns
    simp only [Memref.view_whole, View.read_whole, View.set_whole]
    iintro ⟨%X, %f, -, H⟩
    iexists f; iexact H
  have h₂ : iprop(∃ f, (c.loc b) ↦{q} f) ⊢ (any c (Memref.whole b) q : sProp (MT nD τ sig Ix Val Name U Lvl)) := by
    unfold any owns
    simp only [Memref.view_whole, View.read_whole, View.set_whole]
    iintro ⟨%f, H⟩
    iexists f; iexists f
    isplitr; · (ipureintro; rfl)
    iexact H
  exact BI.equiv_iff.mp ⟨h₁, h₂⟩

/-- A buffer owned through a rectangle that covers it is owned whole. -/
theorem owns_cover (c : Thread nD τ) (b : Ref sig c.2.kind) (q : PosShare TreeShare) (r : Rect b.ty.shape) (hr : ∀ a, r.stride a = 1)
    (hS : r.set = Finset.univ) (X : b.ty.shape.Idx → Val b.ty.elt) :
    (owns c ((Memref.whole b).slice r hr) q (fun y => X (r.emb y)) : sProp (MT nD τ sig Ix Val Name U Lvl)) ⊢ owns c (Memref.whole b) q X := by
  have hset : ((Memref.whole b).slice r hr).view.set = (Memref.whole b).view.set := by
    simp only [Memref.view_slice, Memref.view_whole, View.set_slice_whole, View.set_whole, hS]
  unfold owns
  rw [hset]
  iintro ⟨%f, %hf, H⟩
  iexists f
  isplitr
  · ipureintro
    funext i
    obtain ⟨y, hy⟩ := r.exists_idx_of_mem (hS ▸ Finset.mem_univ i)
    have hy' : r.emb y = i := hy
    have := congrFun hf y
    rw [← hy']; exact this
  iexact H

end General

variable (I : Inp F) (c : Dev nD)

omit [FloatOps F] in
/-- Source 0 at some contents, spelled out. -/
theorem src0Any : (srcAny 0 c : sProp 𝕄) = any (c : Thread nD τ) src0 fullShare := rfl
omit [FloatOps F] in
/-- Source 1 at some contents, spelled out. -/
theorem src1Any : (srcAny 1 c : sProp 𝕄) = any (c : Thread nD τ) src1 fullShare := rfl
omit [FloatOps F] in
/-- Source 2 at some contents, spelled out. -/
theorem src2Any : (srcAny 2 c : sProp 𝕄) = any (c : Thread nD τ) src2 fullShare := rfl
omit [FloatOps F] in
/-- Source 3 at some contents, spelled out. -/
theorem src3Any : (srcAny 3 c : sProp 𝕄) = any (c : Thread nD τ) src3 fullShare := rfl
omit [FloatOps F] in
/-- Source 4 at some contents, spelled out. -/
theorem src4Any : (srcAny 4 c : sProp 𝕄) = any (c : Thread nD τ) src4 fullShare := rfl
omit [FloatOps F] in
/-- Source 5 at some contents, spelled out. -/
theorem src5Any : (srcAny 5 c : sProp 𝕄) = any (c : Thread nD τ) src5 fullShare := rfl
omit [FloatOps F] in
/-- Source 6 at some contents, spelled out. -/
theorem src6Any : (srcAny 6 c : sProp 𝕄) = any (c : Thread nD τ) src6 fullShare := rfl
omit [FloatOps F] in
/-- Source 7 at some contents, spelled out. -/
theorem src7Any : (srcAny 7 c : sProp 𝕄) = any (c : Thread nD τ) src7 fullShare := rfl
omit [FloatOps F] in
/-- Source 8 at some contents, spelled out. -/
theorem src8Any : (srcAny 8 c : sProp 𝕄) = any (c : Thread nD τ) src8 fullShare := rfl
omit [FloatOps F] in
/-- Accumulator A cut into its planes. -/
theorem cutA : (iprop(∃ f : Buf (Elt F) ((c : Thread nD τ).loc cc0_scratch0), ((c : Thread nD τ).loc cc0_scratch0) ↦{fullShare} f) : sProp 𝕄) ⊢ planesA c := by
  rw [any_whole (c : Thread nD τ) fullShare cc0_scratch0 (pl 8 768 0 8 (by decide)) (fun _ => rfl) (pl_all _)]
  unfold planesA
  iintro H
  ihave H := (any_split_pl (c : Thread nD τ) acA fullShare (a := 0) (b := 4) (n := 8) (n₁ := 4) (n₂ := 4) rfl rfl _ (by decide) (by decide)) $$ H
  icases H with ⟨Hl, Hh⟩
  ihave H := (any_split_pl (c : Thread nD τ) acA fullShare (a := 0) (b := 2) (n := 4) (n₁ := 2) (n₂ := 2) rfl rfl _ (by decide) (by decide)) $$ Hl
  icases H with ⟨Hll, Hlh⟩
  ihave H := (any_split_pl (c : Thread nD τ) acA fullShare (a := 4) (b := 6) (n := 4) (n₁ := 2) (n₂ := 2) rfl rfl _ (by decide) (by decide)) $$ Hh
  icases H with ⟨Hhl, Hhh⟩
  ihave H := (any_split_pl (c : Thread nD τ) acA fullShare (a := 0) (b := 1) (n := 2) (n₁ := 1) (n₂ := 1) rfl rfl _ (by decide) (by decide)) $$ Hll
  icases H with ⟨H0, H1⟩
  ihave H := (any_split_pl (c : Thread nD τ) acA fullShare (a := 2) (b := 3) (n := 2) (n₁ := 1) (n₂ := 1) rfl rfl _ (by decide) (by decide)) $$ Hlh
  icases H with ⟨H2, H3⟩
  ihave H := (any_split_pl (c : Thread nD τ) acA fullShare (a := 4) (b := 5) (n := 2) (n₁ := 1) (n₂ := 1) rfl rfl _ (by decide) (by decide)) $$ Hhl
  icases H with ⟨H4, H5⟩
  ihave H := (any_split_pl (c : Thread nD τ) acA fullShare (a := 6) (b := 7) (n := 2) (n₁ := 1) (n₂ := 1) rfl rfl _ (by decide) (by decide)) $$ Hhh
  icases H with ⟨H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- Its pieces, as the body leaves them, put together. -/
theorem mergeA (X : (St 1 768).Idx → Elt F .bf16) : iprop(srcAny 0 c ∗ srcAny 1 c ∗ srcAny 2 c ∗ oA c 0 1 X)
    ⊢ (iprop(∃ f : Buf (Elt F) ((c : Thread nD τ).loc cc0_scratch0), ((c : Thread nD τ).loc cc0_scratch0) ↦{fullShare} f) : sProp 𝕄) := by
  rw [any_whole (c : Thread nD τ) fullShare cc0_scratch0 (pl 8 768 0 8 (by decide)) (fun _ => rfl) (pl_all _)]
  iintro ⟨H4, H2, Hs, H0⟩
  ihave H4 := (Entails.of_eq (src0Any c)) $$ H4
  ihave H2 := (Entails.of_eq (src1Any c)) $$ H2
  ihave Hs := (Entails.of_eq (src2Any c)) $$ Hs
  ihave H1 := (any_squeeze (c : Thread nD τ) (plA 1 1 (by decide)) fullShare S512x768 squeezes_S1x512x768_S512x768) $$ [Hs]
  · iexact Hs
  ihave H0 := (any_intro (c : Thread nD τ) (plA 0 1 (by decide)) fullShare X) $$ [H0]
  · iexact H0
  ihave H0 := (any_join_pl (c : Thread nD τ) acA fullShare (a := 0) (b := 1) (n := 2) (n₁ := 1) (n₂ := 1) rfl rfl (by decide) (by decide) (by decide)) $$ [H0 H1]
  · isplitl [H0]; · iexact H0
    iexact H1
  ihave H0 := (any_join_pl (c : Thread nD τ) acA fullShare (a := 0) (b := 2) (n := 4) (n₁ := 2) (n₂ := 2) rfl rfl (by decide) (by decide) (by decide)) $$ [H0 H2]
  · isplitl [H0]; · iexact H0
    iexact H2
  iapply (any_join_pl (c : Thread nD τ) acA fullShare (a := 0) (b := 4) (n := 8) (n₁ := 4) (n₂ := 4) rfl rfl _ (by decide) (by decide))
  isplitl [H0]; · iexact H0
  iexact H4

omit [FloatOps F] in
/-- Accumulator B cut into its planes. -/
theorem cutB : (iprop(∃ f : Buf (Elt F) ((c : Thread nD τ).loc cc0_scratch1), ((c : Thread nD τ).loc cc0_scratch1) ↦{fullShare} f) : sProp 𝕄) ⊢ planesB c := by
  rw [any_whole (c : Thread nD τ) fullShare cc0_scratch1 (pl 8 640 0 8 (by decide)) (fun _ => rfl) (pl_all _)]
  unfold planesB
  iintro H
  ihave H := (any_split_pl (c : Thread nD τ) acB fullShare (a := 0) (b := 4) (n := 8) (n₁ := 4) (n₂ := 4) rfl rfl _ (by decide) (by decide)) $$ H
  icases H with ⟨Hl, Hh⟩
  ihave H := (any_split_pl (c : Thread nD τ) acB fullShare (a := 0) (b := 2) (n := 4) (n₁ := 2) (n₂ := 2) rfl rfl _ (by decide) (by decide)) $$ Hl
  icases H with ⟨Hll, Hlh⟩
  ihave H := (any_split_pl (c : Thread nD τ) acB fullShare (a := 4) (b := 6) (n := 4) (n₁ := 2) (n₂ := 2) rfl rfl _ (by decide) (by decide)) $$ Hh
  icases H with ⟨Hhl, Hhh⟩
  ihave H := (any_split_pl (c : Thread nD τ) acB fullShare (a := 0) (b := 1) (n := 2) (n₁ := 1) (n₂ := 1) rfl rfl _ (by decide) (by decide)) $$ Hll
  icases H with ⟨H0, H1⟩
  ihave H := (any_split_pl (c : Thread nD τ) acB fullShare (a := 2) (b := 3) (n := 2) (n₁ := 1) (n₂ := 1) rfl rfl _ (by decide) (by decide)) $$ Hlh
  icases H with ⟨H2, H3⟩
  ihave H := (any_split_pl (c : Thread nD τ) acB fullShare (a := 4) (b := 5) (n := 2) (n₁ := 1) (n₂ := 1) rfl rfl _ (by decide) (by decide)) $$ Hhl
  icases H with ⟨H4, H5⟩
  ihave H := (any_split_pl (c : Thread nD τ) acB fullShare (a := 6) (b := 7) (n := 2) (n₁ := 1) (n₂ := 1) rfl rfl _ (by decide) (by decide)) $$ Hhh
  icases H with ⟨H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- Its pieces, as the body leaves them, put together. -/
theorem mergeB (X : (St 1 640).Idx → Elt F .bf16) : iprop(srcAny 3 c ∗ srcAny 4 c ∗ srcAny 5 c ∗ oB c 0 1 X)
    ⊢ (iprop(∃ f : Buf (Elt F) ((c : Thread nD τ).loc cc0_scratch1), ((c : Thread nD τ).loc cc0_scratch1) ↦{fullShare} f) : sProp 𝕄) := by
  rw [any_whole (c : Thread nD τ) fullShare cc0_scratch1 (pl 8 640 0 8 (by decide)) (fun _ => rfl) (pl_all _)]
  iintro ⟨H4, H2, Hs, H0⟩
  ihave H4 := (Entails.of_eq (src3Any c)) $$ H4
  ihave H2 := (Entails.of_eq (src4Any c)) $$ H2
  ihave Hs := (Entails.of_eq (src5Any c)) $$ Hs
  ihave H1 := (any_squeeze (c : Thread nD τ) (plB 1 1 (by decide)) fullShare S512x640 squeezes_S1x512x640_S512x640) $$ [Hs]
  · iexact Hs
  ihave H0 := (any_intro (c : Thread nD τ) (plB 0 1 (by decide)) fullShare X) $$ [H0]
  · iexact H0
  ihave H0 := (any_join_pl (c : Thread nD τ) acB fullShare (a := 0) (b := 1) (n := 2) (n₁ := 1) (n₂ := 1) rfl rfl (by decide) (by decide) (by decide)) $$ [H0 H1]
  · isplitl [H0]; · iexact H0
    iexact H1
  ihave H0 := (any_join_pl (c : Thread nD τ) acB fullShare (a := 0) (b := 2) (n := 4) (n₁ := 2) (n₂ := 2) rfl rfl (by decide) (by decide) (by decide)) $$ [H0 H2]
  · isplitl [H0]; · iexact H0
    iexact H2
  iapply (any_join_pl (c : Thread nD τ) acB fullShare (a := 0) (b := 4) (n := 8) (n₁ := 4) (n₂ := 4) rfl rfl _ (by decide) (by decide))
  isplitl [H0]; · iexact H0
  iexact H4

omit [FloatOps F] in
/-- Accumulator C cut into its planes. -/
theorem cutC : (iprop(∃ f : Buf (Elt F) ((c : Thread nD τ).loc cc0_scratch2), ((c : Thread nD τ).loc cc0_scratch2) ↦{fullShare} f) : sProp 𝕄) ⊢ planesC c := by
  rw [any_whole (c : Thread nD τ) fullShare cc0_scratch2 (pl 8 640 0 8 (by decide)) (fun _ => rfl) (pl_all _)]
  unfold planesC
  iintro H
  ihave H := (any_split_pl (c : Thread nD τ) acC fullShare (a := 0) (b := 4) (n := 8) (n₁ := 4) (n₂ := 4) rfl rfl _ (by decide) (by decide)) $$ H
  icases H with ⟨Hl, Hh⟩
  ihave H := (any_split_pl (c : Thread nD τ) acC fullShare (a := 0) (b := 2) (n := 4) (n₁ := 2) (n₂ := 2) rfl rfl _ (by decide) (by decide)) $$ Hl
  icases H with ⟨Hll, Hlh⟩
  ihave H := (any_split_pl (c : Thread nD τ) acC fullShare (a := 4) (b := 6) (n := 4) (n₁ := 2) (n₂ := 2) rfl rfl _ (by decide) (by decide)) $$ Hh
  icases H with ⟨Hhl, Hhh⟩
  ihave H := (any_split_pl (c : Thread nD τ) acC fullShare (a := 0) (b := 1) (n := 2) (n₁ := 1) (n₂ := 1) rfl rfl _ (by decide) (by decide)) $$ Hll
  icases H with ⟨H0, H1⟩
  ihave H := (any_split_pl (c : Thread nD τ) acC fullShare (a := 2) (b := 3) (n := 2) (n₁ := 1) (n₂ := 1) rfl rfl _ (by decide) (by decide)) $$ Hlh
  icases H with ⟨H2, H3⟩
  ihave H := (any_split_pl (c : Thread nD τ) acC fullShare (a := 4) (b := 5) (n := 2) (n₁ := 1) (n₂ := 1) rfl rfl _ (by decide) (by decide)) $$ Hhl
  icases H with ⟨H4, H5⟩
  ihave H := (any_split_pl (c : Thread nD τ) acC fullShare (a := 6) (b := 7) (n := 2) (n₁ := 1) (n₂ := 1) rfl rfl _ (by decide) (by decide)) $$ Hhh
  icases H with ⟨H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- Its pieces, as the body leaves them, put together. -/
theorem mergeC (X : (St 1 640).Idx → Elt F .bf16) : iprop(srcAny 6 c ∗ srcAny 7 c ∗ srcAny 8 c ∗ oC c 0 1 X)
    ⊢ (iprop(∃ f : Buf (Elt F) ((c : Thread nD τ).loc cc0_scratch2), ((c : Thread nD τ).loc cc0_scratch2) ↦{fullShare} f) : sProp 𝕄) := by
  rw [any_whole (c : Thread nD τ) fullShare cc0_scratch2 (pl 8 640 0 8 (by decide)) (fun _ => rfl) (pl_all _)]
  iintro ⟨H4, H2, Hs, H0⟩
  ihave H4 := (Entails.of_eq (src6Any c)) $$ H4
  ihave H2 := (Entails.of_eq (src7Any c)) $$ H2
  ihave Hs := (Entails.of_eq (src8Any c)) $$ Hs
  ihave H1 := (any_squeeze (c : Thread nD τ) (plC 1 1 (by decide)) fullShare S512x640 squeezes_S1x512x640_S512x640) $$ [Hs]
  · iexact Hs
  ihave H0 := (any_intro (c : Thread nD τ) (plC 0 1 (by decide)) fullShare X) $$ [H0]
  · iexact H0
  ihave H0 := (any_join_pl (c : Thread nD τ) acC fullShare (a := 0) (b := 1) (n := 2) (n₁ := 1) (n₂ := 1) rfl rfl (by decide) (by decide) (by decide)) $$ [H0 H1]
  · isplitl [H0]; · iexact H0
    iexact H1
  ihave H0 := (any_join_pl (c : Thread nD τ) acC fullShare (a := 0) (b := 2) (n := 4) (n₁ := 2) (n₂ := 2) rfl rfl (by decide) (by decide) (by decide)) $$ [H0 H2]
  · isplitl [H0]; · iexact H0
    iexact H2
  iapply (any_join_pl (c : Thread nD τ) acC fullShare (a := 0) (b := 4) (n := 8) (n₁ := 4) (n₂ := 4) rfl rfl _ (by decide) (by decide))
  isplitl [H0]; · iexact H0
  iexact H4

omit [FloatOps F] in
/-- Landing buffer 0 at some contents. -/
theorem land0 : (iprop(∃ f : Buf (Elt F) ((c : Thread nD τ).loc cc0_scratch3), ((c : Thread nD τ).loc cc0_scratch3) ↦{fullShare} f) : sProp 𝕄) = landAny 0 c :=
  (any_buf (c : Thread nD τ) cc0_scratch3 fullShare).symm
omit [FloatOps F] in
/-- Landing buffer 1 at some contents. -/
theorem land1 : (iprop(∃ f : Buf (Elt F) ((c : Thread nD τ).loc cc0_scratch6), ((c : Thread nD τ).loc cc0_scratch6) ↦{fullShare} f) : sProp 𝕄) = landAny 1 c :=
  (any_buf (c : Thread nD τ) cc0_scratch6 fullShare).symm
omit [FloatOps F] in
/-- Landing buffer 2 at some contents. -/
theorem land2 : (iprop(∃ f : Buf (Elt F) ((c : Thread nD τ).loc cc0_scratch9), ((c : Thread nD τ).loc cc0_scratch9) ↦{fullShare} f) : sProp 𝕄) = landAny 2 c :=
  (any_buf (c : Thread nD τ) cc0_scratch9 fullShare).symm
omit [FloatOps F] in
/-- Landing buffer 3 at some contents. -/
theorem land3 : (iprop(∃ f : Buf (Elt F) ((c : Thread nD τ).loc cc0_scratch4), ((c : Thread nD τ).loc cc0_scratch4) ↦{fullShare} f) : sProp 𝕄) = landAny 3 c :=
  (any_buf (c : Thread nD τ) cc0_scratch4 fullShare).symm
omit [FloatOps F] in
/-- Landing buffer 4 at some contents. -/
theorem land4 : (iprop(∃ f : Buf (Elt F) ((c : Thread nD τ).loc cc0_scratch7), ((c : Thread nD τ).loc cc0_scratch7) ↦{fullShare} f) : sProp 𝕄) = landAny 4 c :=
  (any_buf (c : Thread nD τ) cc0_scratch7 fullShare).symm
omit [FloatOps F] in
/-- Landing buffer 5 at some contents. -/
theorem land5 : (iprop(∃ f : Buf (Elt F) ((c : Thread nD τ).loc cc0_scratch10), ((c : Thread nD τ).loc cc0_scratch10) ↦{fullShare} f) : sProp 𝕄) = landAny 5 c :=
  (any_buf (c : Thread nD τ) cc0_scratch10 fullShare).symm
omit [FloatOps F] in
/-- Landing buffer 6 at some contents. -/
theorem land6 : (iprop(∃ f : Buf (Elt F) ((c : Thread nD τ).loc cc0_scratch5), ((c : Thread nD τ).loc cc0_scratch5) ↦{fullShare} f) : sProp 𝕄) = landAny 6 c :=
  (any_buf (c : Thread nD τ) cc0_scratch5 fullShare).symm
omit [FloatOps F] in
/-- Landing buffer 7 at some contents. -/
theorem land7 : (iprop(∃ f : Buf (Elt F) ((c : Thread nD τ).loc cc0_scratch8), ((c : Thread nD τ).loc cc0_scratch8) ↦{fullShare} f) : sProp 𝕄) = landAny 7 c :=
  (any_buf (c : Thread nD τ) cc0_scratch8 fullShare).symm
omit [FloatOps F] in
/-- Landing buffer 8 at some contents. -/
theorem land8 : (iprop(∃ f : Buf (Elt F) ((c : Thread nD τ).loc cc0_scratch11), ((c : Thread nD τ).loc cc0_scratch11) ↦{fullShare} f) : sProp 𝕄) = landAny 8 c :=
  (any_buf (c : Thread nD τ) cc0_scratch11 fullShare).symm

/-- What arrived, its contents forgotten. -/
theorem landed_any (k : Fin 9) : (landed I k c : sProp 𝕄) ⊢ landAny k c := by
  fin_cases k <;> exact any_intro _ _ _ _

/-! ## The result's buffer -/

/-- All of it, and all but the first run of columns. -/
abbrev rOw : Rect S512x2048 := Rect.unit (s := S512x2048) ![0, 0] ![512, 2048] (by decide)
abbrev rOr : Rect S512x2048 := Rect.unit (s := S512x2048) ![0, 768] ![512, 1280] (by decide)

/-- An index is in all rows of a run of columns when its column is. -/
theorem mem_cols {a n : ℕ} {h} {i : S512x2048.Idx} :
    i ∈ (Rect.unit (s := S512x2048) ![0, a] ![512, n] h).set ↔ a ≤ (i 1).val ∧ (i 1).val < a + n := by
  rw [Rect.mem_set_unit]
  constructor
  · intro H; exact H 1
  · intro H b
    match b with
    | ⟨0, _⟩ => exact ⟨Nat.zero_le _, by have := (i 0).isLt; simpa using this⟩
    | ⟨1, _⟩ => exact H

/-- The whole result block is every index. -/
theorem rOw_all : rOw.set = Finset.univ := by
  ext i; rw [mem_cols]; have h : (i 1).val < 2048 := (i 1).isLt; simp only [Finset.mem_univ, iff_true]; omega
/-- The result block is group A's columns and the rest. -/
theorem rOw_union : rOw.set = rO0.set ∪ rOr.set := by
  ext i; rw [Finset.mem_union, mem_cols, mem_cols, mem_cols]; omega
/-- The rest is group B's columns and group C's. -/
theorem rOr_union : rOr.set = rO1.set ∪ rO2.set := by
  ext i; rw [Finset.mem_union, mem_cols, mem_cols, mem_cols]; omega
/-- Group A's columns and the rest share no index. -/
theorem rOw_disjoint : Disjoint rO0.set rOr.set := by
  rw [Finset.disjoint_left]; intro i hi hi'; rw [mem_cols] at hi hi'; omega
/-- Group B's columns and group C's share no index. -/
theorem rOr_disjoint : Disjoint rO1.set rO2.set := by
  rw [Finset.disjoint_left]; intro i hi hi'; rw [mem_cols] at hi hi'; omega

omit [FloatOps F] in
/-- The result's buffer cut into its three runs of columns. -/
theorem cutO : (iprop(∃ f : Buf (Elt F) ((c : Thread nD τ).loc cc0_stg4_0), ((c : Thread nD τ).loc cc0_stg4_0) ↦{fullShare} f) : sProp 𝕄) ⊢ outs c := by
  rw [any_whole (c : Thread nD τ) fullShare cc0_stg4_0 rOw (fun _ => rfl) rOw_all]
  unfold outs
  iintro H
  ihave H := (any_split2 (c : Thread nD τ) outM fullShare rOw rO0 rOr (fun _ => rfl) (fun _ => rfl) (fun _ => rfl) rOw_union rOw_disjoint) $$ H
  icases H with ⟨H0, H⟩
  ihave H := (any_split2 (c : Thread nD τ) outM fullShare rOr rO1 rO2 (fun _ => rfl) (fun _ => rfl) (fun _ => rfl) rOr_union rOr_disjoint) $$ H
  icases H with ⟨H1, H2⟩
  isplitl [H0]; · iexact H0
  isplitl [H1]; · iexact H1
  iexact H2

/-- The result at a run's own indices. -/
theorem outv0 (x : rO0.shape.Idx) : outv I c (rO0.emb x) = outA I c x := by
  have h1 : ((rO0.emb x) 1).val = (x 1).val := by rw [Rect.emb_apply]; show 0 + 1 * (x 1).val = _; omega
  have hx : (x 1).val < 768 := (x 1).isLt
  unfold outv
  rw [dif_pos (by omega)]
  congr 1; funext b; apply Fin.ext
  match b with
  | ⟨0, _⟩ => show ((rO0.emb x) 0).val = _; rw [Rect.emb_apply]; show 0 + 1 * (x 0).val = (x 0).val; omega
  | ⟨1, _⟩ => exact h1
@[inherit_doc outv0] theorem outv1 (x : rO1.shape.Idx) : outv I c (rO1.emb x) = outB I c x := by
  have h1 : ((rO1.emb x) 1).val = 768 + (x 1).val := by rw [Rect.emb_apply]; show 768 + 1 * (x 1).val = _; omega
  have hx : (x 1).val < 640 := (x 1).isLt
  unfold outv
  rw [dif_neg (by omega), dif_pos (by omega)]
  congr 1; funext b; apply Fin.ext
  match b with
  | ⟨0, _⟩ => show ((rO1.emb x) 0).val = _; rw [Rect.emb_apply]; show 0 + 1 * (x 0).val = (x 0).val; omega
  | ⟨1, _⟩ => show ((rO1.emb x) 1).val - 768 = (x 1).val; omega
@[inherit_doc outv0] theorem outv2 (x : rO2.shape.Idx) : outv I c (rO2.emb x) = outC I c x := by
  have h1 : ((rO2.emb x) 1).val = 1408 + (x 1).val := by rw [Rect.emb_apply]; show 1408 + 1 * (x 1).val = _; omega
  have hx : (x 1).val < 640 := (x 1).isLt
  unfold outv
  rw [dif_neg (by omega), dif_neg (by omega)]
  congr 1; funext b; apply Fin.ext
  match b with
  | ⟨0, _⟩ => show ((rO2.emb x) 0).val = _; rw [Rect.emb_apply]; show 0 + 1 * (x 0).val = (x 0).val; omega
  | ⟨1, _⟩ => show ((rO2.emb x) 1).val - 1408 = (x 1).val; omega

/-- The three runs of columns put together are the result. -/
theorem mergeO : iprop(owns (c : Thread nD τ) (outR rO0 (fun _ => rfl)) fullShare (outA I c)
      ∗ owns (c : Thread nD τ) (outR rO1 (fun _ => rfl)) fullShare (outB I c)
      ∗ owns (c : Thread nD τ) (outR rO2 (fun _ => rfl)) fullShare (outC I c)) ⊢ (owns (c : Thread nD τ) outM fullShare (outv I c) : sProp 𝕄) := by
  iintro ⟨H0, H1, H2⟩
  ihave Hr := (join2 (c : Thread nD τ) outM fullShare rOr rO1 rO2 (fun _ => rfl) (fun _ => rfl) (fun _ => rfl) rOr_union rOr_disjoint
    (fun y => outv I c (rOr.emb y)) (outB I c) (outC I c) (fun x y h => by rw [← h, outv1]) (fun x y h => by rw [← h, outv2])) $$ [H1 H2]
  · isplitl [H1]; · iexact H1
    iexact H2
  iapply (owns_cover (c : Thread nD τ) cc0_stg4_0 fullShare rOw (fun _ => rfl) rOw_all (outv I c))
  iapply (join2 (c : Thread nD τ) outM fullShare rOw rO0 rOr (fun _ => rfl) (fun _ => rfl) (fun _ => rfl) rOw_union rOw_disjoint
    (fun y => outv I c (rOw.emb y)) (outA I c) (fun y => outv I c (rOr.emb y)) (fun x y h => by rw [← h, outv0]) (fun x y h => congrArg (outv I c) h))
  isplitl [H0]; · iexact H0
  iexact Hr

end Cert.KernelIdealProof

end
-- ==== Proof.Ghost.lean ====
/-
The launch of the protocol: the cells and duty tokens as they are made, dealt
to the devices that use them, and the credits that the devices' debts are.
-/
module

public import proofs.«01_k».proof.Proof.Buf

@[expose] public section

set_option maxRecDepth 16384

noncomputable section

namespace Cert.KernelIdealProof

open Cert.KernelIdeal Cert.KernelIdeal.Gen Cert.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

/-! ## Running over nine and nineteen -/

section Big
variable {M : Type} [URA M]

/-- A conjunction over the transfers, one by one. -/
theorem chain9 (Φ : Fin 9 → sProp M) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
/-- The same over the neighbours. -/
theorem chain3 (Φ : Fin 3 → sProp M) : bigSep Finset.univ Φ = iprop(Φ 0 ∗ Φ 1 ∗ Φ 2) :=
  bigSep_univ_eq_bigSepL [0, 1, 2] (by decide) (by decide) Φ

/-- The nineteen cells are the barrier, the send cells and the receive cells. -/
def cellsE : (Fin 1 ⊕ (Fin 9 ⊕ Fin 9)) ≃ Fin 19 := (Equiv.sumCongr (Equiv.refl _) finSumFinEquiv).trans finSumFinEquiv

/-- The numbering of the cells puts the barrier first. -/
theorem cellsE_bar (i : Fin 1) : cellsE (.inl i) = 0 := by fin_cases i; rfl
/-- Then the send cells. -/
theorem cellsE_snd (k : Fin 9) : cellsE (.inr (.inl k)) = iS k := by fin_cases k <;> rfl
/-- Then the receive cells. -/
theorem cellsE_rcv (k : Fin 9) : cellsE (.inr (.inr k)) = iR k := by fin_cases k <;> rfl

/-- A conjunction over the nineteen, by use. -/
theorem big19 (Φ : Fin 19 → sProp M) : bigSep Finset.univ Φ
    = iprop(Φ 0 ∗ (bigSep Finset.univ fun k => Φ (iS k)) ∗ bigSep Finset.univ fun k => Φ (iR k)) := by
  rw [bigSep_univ_equiv cellsE, bigSep_univ_sum, bigSep_univ_sum, bigSep_univ_of_subsingleton (0 : Fin 1), cellsE_bar]
  simp only [cellsE_snd, cellsE_rcv]
  rfl

/-- Two conjunctions in either order. -/
theorem big_comm {α β : Type} [Fintype α] [Fintype β] [DecidableEq α] [DecidableEq β] (Φ : α → β → sProp M) :
    bigSep Finset.univ (fun a => bigSep Finset.univ (fun b => Φ a b)) = bigSep Finset.univ (fun b => bigSep Finset.univ (fun a => Φ a b)) := by
  rw [← bigSep_univ_prod (fun p : α × β => Φ p.1 p.2), ← bigSep_univ_prod (fun p : β × α => Φ p.2 p.1)]
  exact bigSep_univ_equiv (Equiv.prodComm β α) (fun p : α × β => Φ p.1 p.2)

/-- What is known may be used at every member. -/
theorem big_with {J : Type} [DecidableEq J] {S : Finset J} {R : sProp M} [BI.Persistent R] {Φ Ψ : J → sProp M}
    (h : ∀ i ∈ S, iprop(R ∗ Φ i) ⊢ Ψ i) : iprop(R ∗ bigSep S Φ) ⊢ bigSep S Ψ :=
  (sep_mono_left (BI.bigSep_of_persistent S R)).trans ((Entails.of_eq (bigSep_sep' S (fun _ => R) Φ).symm).trans (bigSep_mono h))

end Big

/-! ## Cells and tokens, as made -/

/-- A device's cells are distinct semaphores. -/
theorem csem_inj : Function.Injective csem := by
  intro i j h
  unfold csem at h
  by_cases hi : i.val = 0 <;> by_cases hj : j.val = 0
  · exact Fin.ext (by omega)
  · rw [dif_pos hi, dif_neg hj] at h; cases h
  · rw [dif_neg hi, dif_pos hj] at h; cases h
  · rw [dif_neg hi, dif_neg hj] at h
    have := congrArg (fun s : SemLoc sig => match s with | .dma q => q.val | .reg _ => 0) h
    exact Fin.ext (by simpa using this)

/-- Cells of all devices are distinct. -/
theorem kcell_injective : Function.Injective (kcell : Dev nD × Fin 19 → GSem nD τ sig) := by
  rintro ⟨c, i⟩ ⟨c', i'⟩ h
  have h1 : c = c' := congrArg (fun g : GSem nD τ sig => g.1.1) h
  have h2 : i = i' := csem_inj (congrArg Prod.snd h)
  rw [h1, h2]

/-- The cells of all devices. -/
def allCells : Finset (GSem nD τ sig) := Finset.univ.map ⟨kcell, kcell_injective⟩

/-- A device's cells' duty tokens: three of its barrier, one of each other cell. -/
abbrev Tk : Type := Fin 3 ⊕ (Fin 9 ⊕ Fin 9)
/-- The duty that each token stands for: its cell, round 0 and its number. -/
def tokOf : Dev nD × Tk → GSem nD τ sig × ℕ × Fin 3
  | (c, .inl j) => (barCell c, 0, j)
  | (c, .inr (.inl k)) => (sndCell k c, 0, 0)
  | (c, .inr (.inr k)) => (rcvCell k c, 0, 0)

/-- The number a token's cell has among a device's semaphores. -/
def semNo (s : SemLoc sig) : ℕ := match s with | .reg _ => 0 | .dma q => q.val + 1

/-- Distinct tokens stand for distinct duties. -/
theorem tokOf_injective : Function.Injective tokOf := by
  rintro ⟨c, t⟩ ⟨c', t'⟩ h
  have h1 : c = c' := by
    have := congrArg (fun x : GSem nD τ sig × ℕ × Fin 3 => x.1.1.1) h
    rcases t with j | k | k <;> rcases t' with j' | k' | k' <;> exact this
  have h2 := congrArg (fun x : GSem nD τ sig × ℕ × Fin 3 => semNo x.1.2) h
  have h3 := congrArg (fun x : GSem nD τ sig × ℕ × Fin 3 => x.2.2) h
  subst h1
  congr 1
  rcases t with j | k | k <;> rcases t' with j' | k' | k'
  · exact congrArg Sum.inl h3
  · exact absurd (show 0 = 5 + k'.val + 1 from h2) (by omega)
  · exact absurd (show 0 = 14 + k'.val + 1 from h2) (by omega)
  · exact absurd (show 5 + k.val + 1 = 0 from h2) (by omega)
  · have h2' : 5 + k.val + 1 = 5 + k'.val + 1 := h2
    rw [show k = k' from Fin.ext (by omega)]
  · have h2' : 5 + k.val + 1 = 14 + k'.val + 1 := h2
    have := k.isLt; omega
  · exact absurd (show 14 + k.val + 1 = 0 from h2) (by omega)
  · have h2' : 14 + k.val + 1 = 5 + k'.val + 1 := h2
    have := k'.isLt; omega
  · have h2' : 14 + k.val + 1 = 14 + k'.val + 1 := h2
    rw [show k = k' from Fin.ext (by omega)]

/-- The duties of all devices. -/
def allToks : Finset (GSem nD τ sig × ℕ × Fin 3) := Finset.univ.map ⟨tokOf, tokOf_injective⟩

/-- The launch's element. -/
def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun j : Fin 3 => dutyTok ER (barCell c) 0 j)
    ∗ (bigSep Finset.univ fun k : Fin 9 => dutyTok ER (sndCell k c) 0 (0 : Fin 3))
    ∗ bigSep Finset.univ fun k : Fin 9 => dutyTok ER (rcvCell k c) 0 (0 : Fin 3))

/-- A device's positions, and that its cells are at round 0. -/
def spots (c : Dev nD) : sProp 𝕄 :=
  iprop((bigSep Finset.univ fun i : Fin 19 => atPos ER (kcell (c, i)) 0 (∅ : Finset (Fin 3)) 0)
    ∗ bigSep Finset.univ fun i : Fin 19 => reached ER (kcell (c, i)) 0)

/-- What the launch makes for device `c`. -/
def G (c : Dev nD) : sProp 𝕄 :=
  iprop((bigSep Finset.univ fun i : Fin 19 => roundState ER (Rd I) (kcell (c, i)) 0) ∗ spots c ∗ toks c)

/-- The tokens of the duties device `c` pays. -/
def payToks (c : Dev nD) : sProp 𝕄 :=
  iprop((bigSep Finset.univ fun j : Fin 3 => dutyTok ER (barCell (px j c)) 0 j) ∗ bigSep Finset.univ fun k : Fin 9 => sendKit k c)

/-- What device `c` holds when its body starts: all cells' invariants, its positions, the tokens it pays with. -/
def G' (c : Dev nD) : sProp 𝕄 :=
  iprop(∃ K, records I K ∗ (bigSep Finset.univ fun i : Fin 19 => atPos ER (kcell (c, i)) 0 (∅ : Finset (Fin 3)) 0) ∗ payToks c)

/-- The ghost state made at launch is, device by device, every cell's start and every duty's token. -/
theorem fund_all : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun i : Fin 19 => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (Rd I) allCells allToks) $$ HX with ⟨Hst, Hr, Hat, Htok⟩
  imodintro
  ihave Hst := (Entails.of_eq (hX fun g => roundState ER (Rd I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G spots; simp only [bigSep_sep']
  isplitl [Hst]; · iexact Hst
  isplitl [Hat Hr]
  · isplitl [Hat]; · iexact Hat
    iexact Hr
  iexact Htok

/-! ## The counters -/

/-- The kernel's own semaphores are its send and receive cells; -/
abbrev osem : Fin 18 → SemLoc sig := fun i => .dma ⟨5 + i.val, by have := i.isLt; show 5 + i.val < 23; omega⟩

/-- The semaphores numbered here are the call's own. -/
theorem ownSemFacts : Pipeline.OwnSemFacts cfg0.spec osem := by decide

omit [FloatOps F] in
/-- The call's own semaphores at zero: the send and the receive cells. -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 9 => semVal (sndCell k c) 0) ∗ bigSep Finset.univ fun k : Fin 9 => semVal (rcvCell k c) 0) := by
  unfold Pipeline.ownSems0
  rw [bigSep_univ_equiv (finSumFinEquiv (m := 9) (n := 9)), bigSep_univ_sum]
  have h1 (k : Fin 9) : osem (finSumFinEquiv (m := 9) (n := 9) (.inl k)) = .dma (sndQ k) := by fin_cases k <;> rfl
  have h2 (k : Fin 9) : osem (finSumFinEquiv (m := 9) (n := 9) (.inr k)) = .dma (rcvQ k) := by fin_cases k <;> rfl
  simp only [h1, h2]
  rfl

omit [FloatOps F] in
/-- the barrier's is the one that outlives the call. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- All semaphores at zero: the barrier, the send and the receive cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 19 => semVal (kcell (c, i)) 0 : sProp 𝕄) := by
  rw [ownSems0_eq, unscopedSems0_eq, big19]
  simp only [kcell_snd, kcell_rcv]
  iintro ⟨⟨HS, HV⟩, HB⟩
  isplitl [HB]; · iexact HB
  isplitl [HS]; · iexact HS
  iexact HV

/-! ## Dealing -/

/-- A device's cells made into invariants. -/
theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun i : Fin 19 => iprop(∃ κ : ℕ, cellInv ER (Rd I) κ (kcell (c, i)))) ∗ spots c ∗ toks c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun i : Fin 19 => semVal (kcell (c, i)) 0) ∗ bigSep Finset.univ fun i : Fin 19 => roundState ER (Rd I) (kcell (c, i)) 0)
      ⊢ (|={Set.univ}=> bigSep Finset.univ fun i : Fin 19 => iprop(∃ κ : ℕ, cellInv ER (Rd I) κ (kcell (c, i))) : sProp 𝕄) from by
        rw [← bigSep_sep']
        exact (bigSep_mono fun i _ => (Rounds.body_intro ER (Rd I) (kcell (c, i))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

omit [FloatOps F] in
/-- Every token goes to the device that pays the duty: a barrier's to the neighbour it is of, a receive cell's to the
    device whose transfer lands there. -/
theorem toks_dealt : (bigSep Finset.univ fun c : Dev nD => (toks c : sProp 𝕄)) ⊢ bigSep Finset.univ fun c : Dev nD => payToks c := by
  unfold toks payToks sendKit
  simp only [bigSep_sep']
  rw [big_comm (fun (c : Dev nD) (j : Fin 3) => (dutyTok ER (barCell c) 0 j : sProp 𝕄)),
    big_comm (fun (c : Dev nD) (j : Fin 3) => (dutyTok ER (barCell (px j c)) 0 j : sProp 𝕄)),
    big_comm (fun (c : Dev nD) (k : Fin 9) => (dutyTok ER (rcvCell k c) 0 (0 : Fin 3) : sProp 𝕄)),
    big_comm (fun (c : Dev nD) (k : Fin 9) => (dutyTok ER (rcvCell k (peer k c)) 0 (0 : Fin 3) : sProp 𝕄)),
    bigSep_congr (s := Finset.univ) (fun (j : Fin 3) _ => bigSep_univ_equiv (pxE j) (fun c : Dev nD => (dutyTok ER (barCell c) 0 j : sProp 𝕄))),
    bigSep_congr (s := Finset.univ) (fun (k : Fin 9) _ => bigSep_univ_equiv (peerE k) (fun c : Dev nD => (dutyTok ER (rcvCell k c) 0 (0 : Fin 3) : sProp 𝕄)))]
  iintro ⟨H1, H2, H3⟩
  isplitl [H1]; · iexact H1
  isplitl [H2]; · iexact H2
  iexact H3

/-- All devices' invariants known to each, and each its own share. -/
theorem regroup :
    (bigSep Finset.univ fun c : Dev nD => iprop((bigSep Finset.univ fun i : Fin 19 => iprop(∃ κ : ℕ, cellInv ER (Rd I) κ (kcell (c, i)))) ∗ spots c ∗ toks c) : sProp 𝕄)
      ⊢ bigSep Finset.univ (G' I) := by
  unfold spots
  simp only [bigSep_sep']
  rw [← bigSep_univ_prod (fun ck : Dev nD × Fin 19 => iprop(∃ κ : ℕ, cellInv ER (Rd I) κ (kcell ck))),
    ← bigSep_univ_prod (fun ck : Dev nD × Fin 19 => (reached ER (kcell ck) 0 : sProp 𝕄))]
  iintro ⟨HI, ⟨Hat, #HR⟩, Htok⟩
  ihave HK := (BI.bigSep_exists_pi Finset.univ (fun (ck : Dev nD × Fin 19) (κ : ℕ) => (cellInv ER (Rd I) κ (kcell ck) : sProp 𝕄))) $$ HI
  icases HK with ⟨%K, #HI⟩
  ihave Htk := (toks_dealt (F := F)) $$ Htok
  iapply (big_with (R := records I K) (Φ := fun c : Dev nD => iprop((bigSep Finset.univ fun i : Fin 19 => atPos ER (kcell (c, i)) 0 (∅ : Finset (Fin 3)) 0) ∗ payToks c))
    fun c _ => show iprop(records I K ∗ (bigSep Finset.univ fun i : Fin 19 => atPos ER (kcell (c, i)) 0 (∅ : Finset (Fin 3)) 0) ∗ payToks c) ⊢ G' I c from by
      unfold G'; iintro H; iexists K; iexact H)
  isplitr
  · unfold records; isplitl; · iexact HI
    iexact HR
  · simp only [bigSep_sep']
    isplitl [Hat]; · iexact Hat
    iexact Htk

/-- The global step. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credits -/

omit [FloatOps F] in
/-- If every device owes `n` to cell `sm` of the device `σ` sends it to, every device has a credit of `n` there. -/
theorem launch_one (sm : SemLoc sig) (σ : Dev nD ≃ Dev nD) (n : ℕ) (c : Dev nD) :
    (Pipeline.launchCred (fun d => tallyAt ((σ d : Thread nD τ), sm) () n) c : sProp 𝕄) ⊢ cred (tallyAt ((c : Thread nD τ), sm) () n) := by
  refine (Pipeline.launchCred_elim _ c sm).trans (Entails.of_eq (congrArg cred ?_))
  unfold tallyAt
  refine congrArg _ (Finsupp.ext fun u => ?_)
  cases u
  rw [Pipeline.launchCredit_owing, Finsupp.single_eq_same, Finset.sum_eq_single (σ.symm c)]
  · rw [Equiv.apply_symm_apply]; exact tallyAt_self _ _ _
  · intro d _ hd
    refine (tallyAt_apply _ _ _ _ _).trans (if_neg fun h => hd ?_)
    have : c = σ d := congrArg (fun g : GSem nD τ sig => g.1.1) h.1
    rw [this, Equiv.symm_apply_apply]
  · intro h; exact absurd (Finset.mem_univ _) h

omit [FloatOps F] in
/-- The transfers owed, as credits at the receive cells. -/
theorem launch_owe (l : List (Fin 9)) (c : Dev nD) :
    (Pipeline.launchCred (fun d => owe d l) c : sProp 𝕄) ⊢ bigSepL l fun k => cred (tallyAt (rcvCell k c) () (N k)) := by
  induction l with
  | nil => exact Entails.of_eq (Pipeline.launchCred_zero c)
  | cons k l ih =>
    show (Pipeline.launchCred (fun d => owe d l + tallyAt (rcvCell k (peer k d)) () (N k)) c : sProp 𝕄) ⊢ _
    rw [Pipeline.launchCred_add, BI.bigSepL_cons]
    show _ ⊢ iprop(cred (tallyAt (rcvCell k c) () (N k)) ∗ bigSepL l fun k => cred (tallyAt (rcvCell k c) () (N k)))
    iintro ⟨H1, H2⟩
    isplitl [H2]
    · iapply (launch_one (F := F) (.dma (rcvQ k)) (peerE k) (N k) c); iexact H2
    · iapply ih; iexact H1

omit [FloatOps F] in
/-- A device's credits at the launch. -/
theorem creds (c : Dev nD) : (Pipeline.launchCred O₀ c : sProp 𝕄)
    ⊢ iprop(cred (tallyAt (barCell c) () 3) ∗ bigSep Finset.univ fun k : Fin 9 => cred (tallyAt (rcvCell k c) () (N k))) := by
  have hO : O₀ = fun d : Dev nD => ((owe d ord + tallyAt (barCell (px 2 d)) () 1) + tallyAt (barCell (px 1 d)) () 1) + tallyAt (barCell (px 0 d)) () 1 := rfl
  rw [hO, Pipeline.launchCred_add, Pipeline.launchCred_add, Pipeline.launchCred_add,
    bigSep_univ_eq_bigSepL ord (by decide) (by decide)]
  rw [show (tallyAt (barCell c) () 3 : CellTallies nD τ sig Unit) = (tallyAt (barCell c) () 1 + tallyAt (barCell c) () 1) + tallyAt (barCell c) () 1 from by
    rw [tallyAt_add, tallyAt_add]]
  iintro ⟨⟨⟨H, H2⟩, H1⟩, H0⟩
  isplitl [H2 H1 H0]
  · iapply (cred_add _ _).2
    isplitl [H2 H1]
    · iapply (cred_add _ _).2
      isplitl [H2]; · iapply (launch_one (F := F) (.reg barS) (pxE 2) 1 c); iexact H2
      iapply (launch_one (F := F) (.reg barS) (pxE 1) 1 c); iexact H1
    · iapply (launch_one (F := F) (.reg barS) (pxE 0) 1 c); iexact H0
  · iapply (launch_owe (F := F) ord c); iexact H

/-! ## Closing the cells -/

/-- A cell past its round closes, its counter at zero. -/
theorem close_cell (K : Dev nD × Fin 19 → ℕ) (g : GSem nD τ sig) (κ : ℕ) (h : env I K ⊢ cellInv ER (Rd I) κ g) :
    iprop(env I K ∗ past g) ⊢ (|={Set.univ}=> semVal g 0 : sProp 𝕄) := by
  unfold past
  iintro ⟨#He, H⟩
  imod (Rounds.cell_close ER (Rd I) (Set.mem_univ κ) (fun h => h) (R := 0 + 1) (duties_later I g)) $$ [H] with Hz
  · isplitr; · iapply h; iexact He
    iexact H
  imodintro; iexact Hz

/-- A device's cells past their rounds close, all counters at zero. -/
theorem close_all (K : Dev nD × Fin 19 → ℕ) (c : Dev nD) :
    iprop(env I K ∗ pasts c) ⊢ (|={Set.univ}=> iprop(semVal (barCell c) 0 ∗ (bigSep Finset.univ fun k : Fin 9 => semVal (sndCell k c) 0)
      ∗ bigSep Finset.univ fun k : Fin 9 => semVal (rcvCell k c) 0) : sProp 𝕄) := by
  have hp : (pasts c : sProp 𝕄) ⊢ iprop(past (barCell c) ∗ (bigSep Finset.univ fun k : Fin 9 => past (sndCell k c))
      ∗ bigSep Finset.univ fun k : Fin 9 => past (rcvCell k c)) := by
    rw [chain9, chain9]; unfold pasts
    iintro ⟨HB, HS0, HS1, HS2, HS3, HS4, HS5, HS6, HS7, HS8, HR0, HR1, HR2, HR3, HR4, HR5, HR6, HR7, HR8⟩
    isplitl [HB]; · iexact HB
    isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    iexact HR8
  have hS : iprop(env I K ∗ bigSep Finset.univ fun k : Fin 9 => past (sndCell k c)) ⊢ (|={Set.univ}=> bigSep Finset.univ fun k : Fin 9 => semVal (sndCell k c) 0 : sProp 𝕄) :=
    (big_with fun k _ => close_cell I K (sndCell k c) _ (inv_snd I K k c)).trans (bigSep_fupd _ _)
  have hR : iprop(env I K ∗ bigSep Finset.univ fun k : Fin 9 => past (rcvCell k c)) ⊢ (|={Set.univ}=> bigSep Finset.univ fun k : Fin 9 => semVal (rcvCell k c) 0 : sProp 𝕄) :=
    (big_with fun k _ => close_cell I K (rcvCell k c) _ (inv_rcv I K k c)).trans (bigSep_fupd _ _)
  iintro ⟨#He, H⟩
  ihave H := hp $$ H
  icases H with ⟨HB, HS, HR⟩
  imod (close_cell I K (barCell c) _ (inv_bar I K c)) $$ [HB] with HB
  · isplitr; · iexact He
    iexact HB
  imod hS $$ [HS] with HS
  · isplitr; · iexact He
    iexact HS
  imod hR $$ [HR] with HR
  · isplitr; · iexact He
    iexact HR
  imodintro
  isplitl [HB]; · iexact HB
  isplitl [HS]; · iexact HS
  iexact HR

end Cert.KernelIdealProof

end
-- ==== Proof.Run.lean ====
/-
The run of the whole program: every execution ends, the arguments and counters
are as they were, and each device's result is its block.
-/
module

public import proofs.«01_k».proof.Proof.Ghost
public import proofs.«01_k».proof.Proof.Gen.KernelIdeal.Frame
public import Idealize.ShloMosaic.Lib.Pipeline.CollectiveSegs

@[expose] public section

set_option maxRecDepth 16384

noncomputable section

namespace Cert.KernelIdealProof

open Cert.KernelIdeal Cert.KernelIdeal.Gen Cert.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The state the program starts from. -/
abbrev st₀ : MemSt nD τ sig (Elt F) := ⟨m, fun _ => 0, ρ⟩

/-- The contents the bodies read: the windows' blocks of the arguments. -/
def inp : Inp F where
  x c := iblk m c 0 t0_0
  w c := iblk m c 1 t0_0
  a c := iblk m c 2 t0_0
  b c := iblk m c 3 t0_0

/-- What a device's body starts from, and ends with. -/
def start (c : Dev nD) : sProp 𝕄 :=
  iprop(G' (inp m) c ∗ (cred (tallyAt (barCell c) () 3) ∗ bigSep Finset.univ fun k : Fin 9 => cred (tallyAt (rcvCell k c) () (N k))) ∗ levAts L lv)
/-- What is held on entering the body. -/
def Φ₀ (c : Dev nD) : sProp 𝕄 := iprop(start m c ∗ Pipeline.scopedRest cfg0.spec c)
/-- What is held on leaving it. -/
def Φ₁ (c : Dev nD) : sProp 𝕄 :=
  iprop((unscopedSems0 c ∗ Pipeline.ownSems0 osem c) ∗ Pipeline.scopedRest cfg0.spec c)

/-- The proof data of the one call. -/
def dats (_ : Fin 1) (c : Dev nD) : Dat τ (Elt F) Unit ℕ UU ℕ cfg0 c where
  A w := (st₀ m ρ).mem ((cfg0.win w).arr.view.loc (c : Thread nD τ))
  after w _ := match w with
    | ⟨0, _⟩ => (inp m).x c
    | ⟨1, _⟩ => (inp m).w c
    | ⟨2, _⟩ => (inp m).a c
    | ⟨3, _⟩ => (inp m).b c
    | ⟨4, _⟩ => outv (inp m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body -/

/-- A staging buffer at known contents. -/
abbrev stg (c : Dev nD) (b : Ref sig .tc) (X : b.ty.Contents (Elt F)) : sProp 𝕄 :=
  owns (c : Thread nD τ) (Memref.whole b) fullShare X

/-- What the launch hands the body, in the body's terms. -/
theorem start_split (c : Dev nD) : (start m c : sProp 𝕄) ⊢ iprop(∃ K, env (inp m) K ∗
    (dutyTok ER (barCell (px 0 c)) 0 (0 : Fin 3) ∗ dutyTok ER (barCell (px 1 c)) 0 (1 : Fin 3) ∗ dutyTok ER (barCell (px 2 c)) 0 (2 : Fin 3))
    ∗ waitKit (barCell c) 3 ∗ preSend c ∗ preAt c ∗ preRecv c) := by
  have hR : iprop((bigSep Finset.univ fun k : Fin 9 => cred (tallyAt (rcvCell k c) () (N k))) ∗ bigSep Finset.univ fun k : Fin 9 => atPos ER (rcvCell k c) 0 (∅ : Finset (Fin 3)) 0)
      ⊢ (preRecv c : sProp 𝕄) := by
    rw [← bigSep_sep', chain9]; exact Entails.of_eq rfl
  unfold start G' payToks env
  simp only [big19, kcell_bar, kcell_snd, kcell_rcv]
  rw [chain3, chain9 (fun k => (sendKit k c : sProp 𝕄)), chain9 (fun k => (atPos ER (sndCell k c) 0 (∅ : Finset (Fin 3)) 0 : sProp 𝕄))]
  iintro ⟨⟨%K, #HI, ⟨HaB, HaS, HaR⟩, HtB, HtS⟩, ⟨HcB, HcR⟩, #Hlev⟩
  iexists K
  isplitr
  · isplitr; · iexact HI
    iexact Hlev
  isplitl [HtB]; · iexact HtB
  isplitl [HcB HaB]
  · iapply (kit_intro (F := F) (barCell c) 3)
    isplitl [HcB]; · iexact HcB
    iexact HaB
  isplitl [HtS]; · unfold preSend; iexact HtS
  isplitl [HaS]; · unfold preAt; iexact HaS
  iapply hR
  isplitl [HcR]; · iexact HcR
  iexact HaR

/-- The scratch buffers are the accumulators' planes and the landing buffers. -/
theorem scratch_cut (c : Dev nD) : (Pipeline.scopedRest cfg0.spec c : sProp 𝕄) ⊢ iprop(planesA c ∗ planesB c ∗ planesC c ∗ barPay 0 c ∗ barPay 1 c ∗ barPay 2 c) := by
  rw [scopedRest0_eq, barPay0 (F := F), barPay1 (F := F), barPay2 (F := F)]
  iintro ⟨HA, HB, HC, H0, H3, H6, H1, H4, H7, H2, H5, H8⟩
  ihave H0 := (Entails.of_eq (land0 (F := F) c)) $$ H0
  ihave H1 := (Entails.of_eq (land1 (F := F) c)) $$ H1
  ihave H2 := (Entails.of_eq (land2 (F := F) c)) $$ H2
  ihave H3 := (Entails.of_eq (land3 (F := F) c)) $$ H3
  ihave H4 := (Entails.of_eq (land4 (F := F) c)) $$ H4
  ihave H5 := (Entails.of_eq (land5 (F := F) c)) $$ H5
  ihave H6 := (Entails.of_eq (land6 (F := F) c)) $$ H6
  ihave H7 := (Entails.of_eq (land7 (F := F) c)) $$ H7
  ihave H8 := (Entails.of_eq (land8 (F := F) c)) $$ H8
  isplitl [HA]; · iapply (cutA (F := F) c); iexact HA
  isplitl [HB]; · iapply (cutB (F := F) c); iexact HB
  isplitl [HC]; · iapply (cutC (F := F) c); iexact HC
  isplitl [H0 H5 H7]
  · isplitl [H0]; · iexact H0
    isplitl [H5]; · iexact H5
    iexact H7
  isplitl [H1 H3 H8]
  · isplitl [H1]; · iexact H1
    isplitl [H3]; · iexact H3
    iexact H8
  isplitl [H2]; · iexact H2
  isplitl [H4]; · iexact H4
  iexact H6

/-- What the body leaves of them is the scratch buffers again. -/
theorem scratch_merge (I : Inp F) (c : Dev nD) : iprop(lands I c ∗ srcs c ∗ zeros I c) ⊢ (Pipeline.scopedRest cfg0.spec c : sProp 𝕄) := by
  rw [scopedRest0_eq]
  unfold lands srcs zeros
  iintro ⟨⟨H0, H1, H2, H3, H4, H5, H6, H7, H8⟩, ⟨S0, S1, S2, S3, S4, S5, S6, S7, S8⟩, ZA, ZB, ZC⟩
  isplitl [S0 S1 S2 ZA]
  · iapply (mergeA c (zeroA I c))
    isplitl [S0]; · iexact S0
    isplitl [S1]; · iexact S1
    isplitl [S2]; · iexact S2
    iexact ZA
  isplitl [S3 S4 S5 ZB]
  · iapply (mergeB c (zeroB I c))
    isplitl [S3]; · iexact S3
    isplitl [S4]; · iexact S4
    isplitl [S5]; · iexact S5
    iexact ZB
  isplitl [S6 S7 S8 ZC]
  · iapply (mergeC c (zeroC I c))
    isplitl [S6]; · iexact S6
    isplitl [S7]; · iexact S7
    isplitl [S8]; · iexact S8
    iexact ZC
  isplitl [H0]; · iapply (Entails.of_eq (land0 (F := F) c).symm); iapply (landed_any I c 0); iexact H0
  isplitl [H3]; · iapply (Entails.of_eq (land3 (F := F) c).symm); iapply (landed_any I c 3); iexact H3
  isplitl [H6]; · iapply (Entails.of_eq (land6 (F := F) c).symm); iapply (landed_any I c 6); iexact H6
  isplitl [H1]; · iapply (Entails.of_eq (land1 (F := F) c).symm); iapply (landed_any I c 1); iexact H1
  isplitl [H4]; · iapply (Entails.of_eq (land4 (F := F) c).symm); iapply (landed_any I c 4); iexact H4
  isplitl [H7]; · iapply (Entails.of_eq (land7 (F := F) c).symm); iapply (landed_any I c 7); iexact H7
  isplitl [H2]; · iapply (Entails.of_eq (land2 (F := F) c).symm); iapply (landed_any I c 2); iexact H2
  isplitl [H5]; · iapply (Entails.of_eq (land5 (F := F) c).symm); iapply (landed_any I c 5); iexact H5
  iapply (Entails.of_eq (land8 (F := F) c).symm); iapply (landed_any I c 8); iexact H8

/-- The body finds its block of `x` in the first window's buffer. -/
theorem before_x (c : Dev nD) (d) : (dats m ρ 0 c).before (0 : Fin 5) t0_0 d = (inp m).x c := by
  unfold Dat.before; rw [if_pos (fetch0_0 t0_0)]; rfl
/-- It finds its block of `w` in the second's. -/
theorem before_w (c : Dev nD) (d) : (dats m ρ 0 c).before (1 : Fin 5) t0_0 d = (inp m).w c := by
  unfold Dat.before; rw [if_pos (fetch0_1 t0_0)]; rfl
/-- It finds the first scale in the third's. -/
theorem before_a (c : Dev nD) (d) : (dats m ρ 0 c).before (2 : Fin 5) t0_0 d = (inp m).a c := by
  unfold Dat.before; rw [if_pos (fetch0_2 t0_0)]; rfl
/-- It finds the second scale in the fourth's. -/
theorem before_b (c : Dev nD) (d) : (dats m ρ 0 c).before (3 : Fin 5) t0_0 d = (inp m).b c := by
  unfold Dat.before; rw [if_pos (fetch0_3 t0_0)]; rfl

/-- What holds before the body, and after it. -/
def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
/-- What the body hands back. -/
def bodyPost (c : Dev nD) : sProp 𝕄 :=
  iprop(Φ₁ c ∗ (dats m ρ 0 c).owesAt () t0_0.succ
    ∗ stg c cc0_stg0_0 ((inp m).x c) ∗ stg c cc0_stg1_0 ((inp m).w c) ∗ stg c cc0_stg2_0 ((inp m).a c) ∗ stg c cc0_stg3_0 ((inp m).b c)
    ∗ stg c cc0_stg4_0 (outv (inp m) c))

set_option maxHeartbeats 800000 in
/-- The body takes the one to the other. -/
theorem sound_body (c : Dev nD) : bodyPre m ρ c ⊢ wp frame (wpE (defs₀ (F := F)) 𝒱₀ (c : Thread nD τ) none) Set.univ (body (F := F)) (fun _ => bodyPost m ρ c) := by
  unfold bodyPre Φ₀
  iintro ⟨⟨Hs, Hscr⟩, Ho, ⟨%d0, Hx⟩, ⟨%d1, Hw⟩, ⟨%d2, Ha⟩, ⟨%d3, Hb⟩, ⟨%d4, Hout⟩⟩
  rw [before_x, before_w, before_a, before_b]
  ihave Hs := (start_split m c) $$ Hs
  icases Hs with ⟨%K, #He, Htoks, HwB, Hsend, Hat, Hrecv⟩
  ihave Hscr := (scratch_cut (F := F) c) $$ Hscr
  icases Hscr with ⟨HA, HB, HC, Hb0, Hb1, Hb2⟩
  ihave Hout := (any_intro (c : Thread nD τ) outM fullShare _) $$ [Hout]
  · iexact Hout
  ihave Hout := (Entails.of_eq (any_buf (c : Thread nD τ) cc0_stg4_0 fullShare)) $$ [Hout]
  · iexact Hout
  ihave Hout := (cutO (F := F) c) $$ Hout
  unfold Dat.owesAt Pipeline.owesWithin
  icases Ho with ⟨%W, %hW, HO⟩
  rw [show (dats m ρ 0 c).owed t0_0.castSucc = O₀ c from rfl]
  have h := trBody (inp m) K c
  unfold Tr at h
  iapply (wp_fupd frame (wpE (defs₀ (F := F)) 𝒱₀ (c : Thread nD τ) none) Set.univ)
  iapply (wp_wand_r frame (wpE (defs₀ (F := F)) 𝒱₀ (c : Thread nD τ) none))
  isplitl [HO Htoks HwB Hsend Hat Hrecv HA HB HC Hb0 Hb1 Hb2 Hout Hx Hw Ha Hb]
  · iapply h
    unfold bodyStart preBar ins Owed
    isplitr; · iexact He
    isplitl [HO]; · iexists W; iexact HO
    isplitl [Htoks Hb0 Hb1 Hb2 HwB]
    · isplitl [Htoks]; · iexact Htoks
      isplitl [Hb0 Hb1 Hb2]
      · isplitl [Hb0]; · iexact Hb0
        isplitl [Hb1]; · iexact Hb1
        iexact Hb2
      iexact HwB
    isplitl [Hsend]; · iexact Hsend
    isplitl [Hat]; · iexact Hat
    isplitl [Hrecv]; · iexact Hrecv
    isplitl [Hx Hw Ha Hb]
    · isplitl [Hx]; · iexact Hx
      isplitl [Hw]; · iexact Hw
      isplitl [Ha]; · iexact Ha
      iexact Hb
    isplitl [HA]; · iexact HA
    isplitl [HB]; · iexact HB
    isplitl [HC]; · iexact HC
    iexact Hout
  iintro %r ⟨%i, -, Hr, Hres⟩
  unfold bodyRest Ow ins
  icases Hr with ⟨⟨%W', HO⟩, Hp, Hl, Hsr, Hz, Hx, Hw, Ha, Hb⟩
  imod (close_all (inp m) K c) $$ [Hp] with ⟨HzB, HzS, HzR⟩
  · isplitr; · iexact He
    iexact Hp
  imodintro
  unfold bodyPost Φ₁ Dat.owesAt Pipeline.owesWithin
  rw [show (dats m ρ 0 c).owed t0_0.succ = 0 from rfl, ownSems0_eq, unscopedSems0_eq]
  isplitl [HzB HzS HzR Hl Hsr Hz]
  · isplitl [HzB HzS HzR]
    · isplitl [HzB]; · iexact HzB
      isplitl [HzS]; · iexact HzS
      iexact HzR
    · iapply (scratch_merge (inp m) c)
      isplitl [Hl]; · iexact Hl
      isplitl [Hsr]; · iexact Hsr
      iexact Hz
  isplitl [HO]
  · iexists W'
    isplitr; · (ipureintro; exact fun _ _ => Or.inl trivial)
    iexact HO
  isplitl [Hx]; · iexact Hx
  isplitl [Hw]; · iexact Hw
  isplitl [Ha]; · iexact Ha
  isplitl [Hb]; · iexact Hb
  iapply (mergeO (inp m) c); iexact Hres

/-- The library's obligation on the body. -/
theorem body_obligation (c : Dev nD) : BodyObligation (dats (F := F) m ρ 0 c) (defs₀ (F := F)) 𝒱₀ () Set.univ := fun t => by
  rw [fin_N0 t]
  rw [bigSep_W0, bigSep_W0]
  exact sound_body m ρ c

/-! ## The run -/

/-- What the launch gives a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- With the scratch buffers it is what is held on entering. -/
theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

/-- What is held on leaving gives all semaphores at zero and the scratch buffers back. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  iintro ⟨⟨HzB, Hz⟩, Hr⟩
  isplitl [HzB]; · iexact HzB
  isplitl [Hz]; · iexact Hz
  iexact Hr

/-- Every array is held whole. -/
theorem share_eq (c : Dev nD) (w : Fin cfg0.W) : (dats m ρ 0 c).share w = fullShare := by unfold Dat.share; split <;> rfl

/-- A device may wait for the pipeline's own copies. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-- What the arrays hold at the end. -/
def finalA (c : Dev nD) (w : Fin cfg0.W) : Buf (Elt F) ((cfg0.win w).arr.view.loc (c : Thread nD τ)) := (dats m ρ 0 c).arrAt w cfg0.N

set_option maxRecDepth 8000 in
/-- Over any float values, from any memory with counters at zero: every fair execution ends, with the arrays at their
    final contents and every counter at zero. -/
theorem run_main : θ_run defs (onTc (τ := τ) (main (F := F))) (st₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (fund_all (inp m)) $$ HX with HG
      imodintro
      isplitl [HP]; · iexact HP
      iexact HG)
    (hglob := glob (inp m))
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- An argument's array holds at the end what it held. -/
theorem finalA_in (c : Dev nD) (w : Fin cfg0.W) (hw : (cfg0.win w).isOut = false) :
    finalA m ρ c w = m ((cfg0.win w).arr.view.loc (c : Thread nD τ)) := (dats (F := F) m ρ 0 c).arrAt_in w hw _

/-- The run, as a frame: the arguments end as they were, and every counter at zero. -/
theorem run_frame : θ_run defs (onTc (τ := τ) (main (F := F))) (st₀ m ρ)
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ ⟨h, hz⟩ => ⟨fun c => ⟨(h c 0).trans (finalA_in m ρ c 0 rfl), (h c 1).trans (finalA_in m ρ c 1 rfl),
    (h c 2).trans (finalA_in m ρ c 2 rfl), (h c 3).trans (finalA_in m ρ c 3 rfl)⟩, hz⟩) (run_main m ρ)

end Cert.KernelIdealProof

end
-- ==== Proof.Same.lean ====
/-
No operation was replaced for reading at the extended reals, so the two printed programs are the same:
what is proved of the one over any float values holds of the other.
-/
module

public import proofs.«01_k».proof.Proof.Run
public import proofs.«01_k».proof.Proof.Gen.Kernel

@[expose] public section

set_option maxRecDepth 16384

noncomputable section

namespace Cert.Same

open Idealize.ShloMosaic Idealize.SL.Sem

variable {F : FTy → Type} [FloatOps F]

/-- The two programs' kernel bodies are the same. -/
theorem bodies : Cert.Kernel.defs₀ (F := F) = Cert.KernelIdeal.defs₀ (F := F) := by
  refine congrArg Defs.onTc (funext fun l => ?_)
  match l with
  | 0 => exact funext fun ⟨t, s⟩ => rfl
  | ⟨_ + 1, h⟩ => exact absurd h (by omega)

/-- So are their tables of functions. -/
theorem tables : Cert.Kernel.defs (F := F) = Cert.KernelIdeal.defs (F := F) := by
  unfold Cert.Kernel.defs Cert.KernelIdeal.defs
  rw [bodies]
  rfl

/-- The kernel as printed runs, leaves its arguments as they were and every counter at zero. -/
theorem run_frame (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  rw [tables]
  exact Cert.KernelIdealProof.run_frame (F := F) m g

end Cert.Same

end

end
-- ==== Proof.Value.lean ====
/-
What the kernel computes, at the extended reals: every plane is a block's product, every round adds, and a
device's result is the sum over all devices of their products for its block of rows, times the two scales.
-/
module

public import proofs.«01_k».proof.Proof.Contents
public import Idealize.ShloMosaic.Lib.Pointwise
public import Idealize.ShloMosaic.Lib.IdealHost
public import Idealize.ShloMosaic.Lib.ValueLayout

@[expose] public section

set_option maxRecDepth 16384

noncomputable section

namespace Cert.KernelIdealProof

open Cert.KernelIdeal Cert.KernelIdeal.Gen Cert.Own
open Idealize.ShloMosaic

variable (I : Inp Ideal)

/-- The device numbered `c` with the bits of `r` flipped. -/
def flip (c : Dev nD) (r : Fin 8) : Dev nD := ⟨c.val ^^^ r.val, by revert c r; decide⟩

/-- Row `i` of the `e`th block of 512 rows. -/
def rowOf (e : Dev nD) (i : Fin 512) : Fin 4096 := ⟨e.val * 512 + i.val, by have := e.isLt; have := i.isLt; simp only [nD] at *; omega⟩

/-- Device `d`'s part of the product at row `i` of block `e` and column `q`. -/
def prt (e : Dev nD) (i : Fin 512) (q : Fin 2048) (d : Dev nD) : EReal :=
  ∑ k : Fin 512, (I.x d (ix2 (rowOf e i) k) * I.w d (ix2 k q) : EReal)

/-- Where the load of the block for `r` starts. -/
theorem off_eq (c : Dev nD) (r : Fin 8) : k0_off1 c (BitVec.ofNat 32 r.val) = ![(flip c r).val * 512, 0] := by
  have h : ∀ c : Dev nD, ∀ r : Fin 8, ∀ a : Fin 2, k0_off1 c (BitVec.ofNat 32 r.val) a = (![(flip c r).val * 512, 0] : Fin 2 → ℕ) a := by decide
  exact funext (h c r)

/-- The block loaded for `r`, entry by entry. -/
theorem xr_at (c : Dev nD) (r : Fin 8) (i k : Fin 512) : xr I c r (ix2 i k) = I.x c (ix2 (rowOf (flip c r) i) k) := by
  unfold xr rd
  refine congrArg (I.x c) (funext fun a => Fin.ext ?_)
  have h := congrFun (off_eq c r) a
  match a with
  | ⟨0, _⟩ =>
    show k0_off1 c (BitVec.ofNat 32 r.val) 0 + 1 * i.val = (flip c r).val * 512 + i.val
    rw [Nat.one_mul]; exact congrArg (· + i.val) h
  | ⟨1, _⟩ =>
    show k0_off1 c (BitVec.ofNat 32 r.val) 1 + 1 * k.val = k.val
    rw [Nat.one_mul]; exact (congrArg (· + k.val) h).trans (Nat.zero_add _)

/-- `w` as the products take it, entry by entry. -/
theorem we_at (c : Dev nD) (k : Fin 512) (q : Fin 2048) : we I c (ix2 k q) = I.w c (ix2 k q) := by
  unfold we wr rd
  pointwise [k0_pay1]

/-! ## Reading stacks -/

section Stacks
variable {W : ℕ} {α : Type} (P P' P'' P''' : (St 1 W).Idx → α) (i : Fin 512) (j : Fin W)

/-- A stack's index, from its plane, row and column. -/
theorem at_ix3 {n n' : ℕ} (p : Fin n') (q : Fin n) : at_ (W := W) p (ix3 q i j) = ix3 p i j := by
  funext a; match a with | ⟨0, _⟩ => rfl | ⟨1, _⟩ => rfl | ⟨2, _⟩ => rfl

/-- Two planes stacked: the first. -/
theorem st2_0 : st2 P P' (ix3 0 i j) = P (ix3 0 i j) := congrArg P (at_ix3 i j _ _)
/-- Two planes stacked: the second. -/
theorem st2_1 : st2 P P' (ix3 1 i j) = P' (ix3 0 i j) := congrArg P' (at_ix3 i j _ _)
/-- Four planes stacked: the first. -/
theorem st4_0 : st4 P P' P'' P''' (ix3 0 i j) = P (ix3 0 i j) := (congrArg (st2 P P') (at_ix3 i j _ _)).trans (st2_0 P P' i j)
/-- Four planes stacked: the second. -/
theorem st4_1 : st4 P P' P'' P''' (ix3 1 i j) = P' (ix3 0 i j) := (congrArg (st2 P P') (at_ix3 i j _ _)).trans (st2_1 P P' i j)
/-- Four planes stacked: the third. -/
theorem st4_2 : st4 P P' P'' P''' (ix3 2 i j) = P'' (ix3 0 i j) := (congrArg (st2 P'' P''') (at_ix3 i j _ _)).trans (st2_0 P'' P''' i j)
/-- Four planes stacked: the fourth. -/
theorem st4_3 : st4 P P' P'' P''' (ix3 3 i j) = P''' (ix3 0 i j) := (congrArg (st2 P'' P''') (at_ix3 i j _ _)).trans (st2_1 P'' P''' i j)
/-- The first plane taken out of two. -/
theorem fstP_at (X : (St 2 W).Idx → α) : fstP X (ix3 0 i j) = X (ix3 0 i j) := congrArg X (at_ix3 i j _ _)
/-- The second plane taken out of two. -/
theorem sndP_at (X : (St 2 W).Idx → α) : sndP X (ix3 0 i j) = X (ix3 1 i j) := congrArg X (at_ix3 i j _ _)

/-- What a load of some planes of a stack reads. -/
theorem rd_pl {D n k : ℕ} (h) (X : (St D W).Idx → α) (p : Fin n) (p' : Fin D) (hp : k + p.val = p'.val) :
    rd (pl D W k n h).toLoadRect X (ix3 p i j) = X (ix3 p' i j) := by
  refine congrArg X (funext fun a => Fin.ext ?_)
  match a with
  | ⟨0, _⟩ => show k + 1 * p.val = p'.val; omega
  | ⟨1, _⟩ => show 0 + 1 * i.val = i.val; omega
  | ⟨2, _⟩ => show 0 + 1 * j.val = j.val; omega

/-- A load of a whole plane reads the plane. -/
theorem rd_whole (h) (X : (⟨2, ![512, W]⟩ : Shape).Idx → α) :
    rd (Rect.unit (s := ⟨2, ![512, W]⟩) ![0, 0] ![512, W] h).toLoadRect X (ix2 i j) = X (ix2 i j) := by
  refine congrArg X (funext fun a => Fin.ext ?_)
  match a with
  | ⟨0, _⟩ => show 0 + 1 * i.val = i.val; omega
  | ⟨1, _⟩ => show 0 + 1 * j.val = j.val; omega

end Stacks

/-! ## The operations, entry by entry -/

/-- Column `j` of a group that starts at column `o`. -/
def col {W : ℕ} (o : ℕ) (h : o + W ≤ 2048) (j : Fin W) : Fin 2048 := ⟨o + j.val, by have := j.isLt; omega⟩

section Ops
variable (w : FVec Ideal S512x2048 .bf16) (x : Vec Ideal S512x512 .fp8e4m3) (i : Fin 512)

/-- A plane of group A: the block's product with the group's columns of `w`. -/
theorem prodA (j : Fin 768) : k0_pay3 w x (ix3 0 i j) = (∑ k : Fin 512, x (ix2 i k) * w (ix2 k (col 0 (by decide) j)) : EReal) := by
  pointwise [k0_pay3, col]
/-- A plane of group B likewise. -/
theorem prodB (j : Fin 640) : k0_pay6 w x (ix3 0 i j) = (∑ k : Fin 512, x (ix2 i k) * w (ix2 k (col 768 (by decide) j)) : EReal) := by
  pointwise [k0_pay6, col]
/-- A plane of group C likewise. -/
theorem prodC (j : Fin 640) : k0_pay10 w x (ix3 0 i j) = (∑ k : Fin 512, x (ix2 i k) * w (ix2 k (col 1408 (by decide) j)) : EReal) := by
  pointwise [k0_pay10, col]
end Ops

/-! The additions of the rounds: of two planes, of one, and of the last with the product of the scales. -/

/-- Two planes of group A added. -/
theorem addA2 (u v : Vec Ideal S2x512x768 .bf16) (p : Fin 2) (i : Fin 512) (j : Fin 768) :
    k0_pay34 u v (ix3 p i j) = (u (ix3 p i j) + v (ix3 p i j) : EReal) := by pointwise [k0_pay34]
/-- Two planes of group B or C added. -/
theorem addB2 (u v : Vec Ideal S2x512x640 .bf16) (p : Fin 2) (i : Fin 512) (j : Fin 640) :
    k0_pay35 u v (ix3 p i j) = (u (ix3 p i j) + v (ix3 p i j) : EReal) := by pointwise [k0_pay35]
/-- One plane of group A added. -/
theorem addA1 (u v : Vec Ideal S1x512x768 .bf16) (i : Fin 512) (j : Fin 768) :
    k0_pay49 u v (ix3 0 i j) = (u (ix3 0 i j) + v (ix3 0 i j) : EReal) := by pointwise [k0_pay49]
/-- One plane of group B or C added. -/
theorem addB1 (u v : Vec Ideal S1x512x640 .bf16) (i : Fin 512) (j : Fin 640) :
    k0_pay52 u v (ix3 0 i j) = (u (ix3 0 i j) + v (ix3 0 i j) : EReal) := by pointwise [k0_pay52]
/-- The last sum of group A, scaled. -/
theorem lastA (s : EReal) (u : Vec Ideal S1x512x768 .bf16) (v : Vec Ideal S512x768 .bf16) (i : Fin 512) (j : Fin 768) :
    k0_pay54 (F := Ideal) s u v (ix2 i j) = ((u (ix3 0 i j) + v (ix2 i j)) * s : EReal) := by pointwise [k0_pay54]
/-- The last sum of group B or C, scaled. -/
theorem lastB (s : EReal) (u : Vec Ideal S1x512x640 .bf16) (v : Vec Ideal S512x640 .bf16) (i : Fin 512) (j : Fin 640) :
    k0_pay55 (F := Ideal) s u v (ix2 i j) = ((u (ix3 0 i j) + v (ix2 i j)) * s : EReal) := by pointwise [k0_pay55]

/-! ## The rounds, for any of the groups -/

/-- A device, its neighbours and theirs, in the order the rounds add them. -/
def order (j₁ j₂ j₃ : Fin 3) (c : Dev nD) : List (Dev nD) :=
  [c, px j₁ c, px j₂ c, px j₁ (px j₂ c), px j₃ c, px j₁ (px j₃ c), px j₂ (px j₃ c), px j₁ (px j₂ (px j₃ c))]

/-- They are all the devices, each once. -/
theorem order_perm : ∀ (j₁ j₂ j₃ : Fin 3), j₁ ≠ j₂ → j₁ ≠ j₃ → j₂ ≠ j₃ → ∀ c : Dev nD, (order j₁ j₂ j₃ c).Perm (List.finRange 8) := by decide

/-- The rounds' sum is the sum over the devices. -/
theorem order_sum (j₁ j₂ j₃ : Fin 3) (h₁ : j₁ ≠ j₂) (h₂ : j₁ ≠ j₃) (h₃ : j₂ ≠ j₃) (c : Dev nD) (g : Dev nD → EReal) :
    ((g c + g (px j₁ c)) + (g (px j₂ c) + g (px j₁ (px j₂ c))))
      + ((g (px j₃ c) + g (px j₁ (px j₃ c))) + (g (px j₂ (px j₃ c)) + g (px j₁ (px j₂ (px j₃ c))))) = ∑ d, g d := by
  have h := ((order_perm j₁ j₂ j₃ h₁ h₂ h₃ c).map g).sum_eq
  rw [← Fin.sum_univ_def] at h
  rw [← h]
  simp only [order, List.map_cons, List.map_nil, List.sum_cons, List.sum_nil, add_zero, add_assoc]

/-- Three rounds over planes that are the devices' terms: the first leaves two planes to send and two to keep,
the second one and one, the third the sum of all devices' terms for the device's own block. -/
theorem rounds {W : ℕ} (P : Dev nD → Fin 8 → (St 1 W).Idx → EReal) (mid lo : Dev nD → (St 2 W).Idx → EReal)
    (one zero : Dev nD → (St 1 W).Idx → EReal) (j₁ j₂ j₃ : Fin 3) (h₁ : j₁ ≠ j₂) (h₂ : j₁ ≠ j₃) (h₃ : j₂ ≠ j₃)
    (r : Fin 8 → Fin 8) (T : Dev nD → Dev nD → EReal) (i : Fin 512) (j : Fin W) (a₂ a₀ b₁ b₀)
    (hmid : ∀ d p, mid d (ix3 p i j) = st2 (P d 2) (P d 3) (ix3 p i j)
      + rd (pl 4 W 2 2 a₂).toLoadRect (st4 (P (px j₁ d) 4) (P (px j₁ d) 5) (P (px j₁ d) 6) (P (px j₁ d) 7)) (ix3 p i j))
    (hlo : ∀ d p, lo d (ix3 p i j) = st2 (P d 0) (P d 1) (ix3 p i j)
      + rd (pl 4 W 0 2 a₀).toLoadRect (st4 (P (px j₁ d) 4) (P (px j₁ d) 5) (P (px j₁ d) 6) (P (px j₁ d) 7)) (ix3 p i j))
    (hone : ∀ d, one d (ix3 0 i j) = sndP (lo d) (ix3 0 i j) + rd (pl 2 W 1 1 b₁).toLoadRect (mid (px j₂ d)) (ix3 0 i j))
    (hzero : ∀ d, zero d (ix3 0 i j) = fstP (lo d) (ix3 0 i j) + rd (pl 2 W 0 1 b₀).toLoadRect (mid (px j₂ d)) (ix3 0 i j))
    (hP : ∀ d p, P d p (ix3 0 i j) = T (flip d (r p)) d)
    (hr : ∀ c, flip c (r 0) = c ∧ flip (px j₁ c) (r 4) = c ∧ flip (px j₂ c) (r 2) = c ∧ flip (px j₁ (px j₂ c)) (r 6) = c
      ∧ flip (px j₃ c) (r 1) = c ∧ flip (px j₁ (px j₃ c)) (r 5) = c ∧ flip (px j₂ (px j₃ c)) (r 3) = c
      ∧ flip (px j₁ (px j₂ (px j₃ c))) (r 7) = c)
    (c : Dev nD) : zero c (ix3 0 i j) + one (px j₃ c) (ix3 0 i j) = ∑ d, T c d := by
  obtain ⟨r0, r4, r2, r6, r1, r5, r3, r7⟩ := hr c
  have m0 : ∀ d, mid d (ix3 0 i j) = P d 2 (ix3 0 i j) + P (px j₁ d) 6 (ix3 0 i j) := fun d => by
    rw [hmid, st2_0, rd_pl i j a₂ _ (0 : Fin 2) (2 : Fin 4) rfl, st4_2]
  have m1 : ∀ d, mid d (ix3 1 i j) = P d 3 (ix3 0 i j) + P (px j₁ d) 7 (ix3 0 i j) := fun d => by
    rw [hmid, st2_1, rd_pl i j a₂ _ (1 : Fin 2) (3 : Fin 4) rfl, st4_3]
  have l0 : ∀ d, lo d (ix3 0 i j) = P d 0 (ix3 0 i j) + P (px j₁ d) 4 (ix3 0 i j) := fun d => by
    rw [hlo, st2_0, rd_pl i j a₀ _ (0 : Fin 2) (0 : Fin 4) rfl, st4_0]
  have l1 : ∀ d, lo d (ix3 1 i j) = P d 1 (ix3 0 i j) + P (px j₁ d) 5 (ix3 0 i j) := fun d => by
    rw [hlo, st2_1, rd_pl i j a₀ _ (1 : Fin 2) (1 : Fin 4) rfl, st4_1]
  rw [hzero, hone, fstP_at, sndP_at, rd_pl i j b₁ _ (0 : Fin 1) (1 : Fin 2) rfl, rd_pl i j b₀ _ (0 : Fin 1) (0 : Fin 2) rfl,
    m0, m1, l0, l1]
  simp only [hP, r0, r1, r2, r3, r4, r5, r6, r7]
  exact order_sum j₁ j₂ j₃ h₁ h₂ h₃ c (T c)

/-! ## The planes -/

/-- A block's product is the device's part. -/
theorem prt_eq (c : Dev nD) (r : Fin 8) (i : Fin 512) (q : Fin 2048) :
    (∑ k : Fin 512, (xr I c r (ix2 i k) * we I c (ix2 k q) : EReal)) = prt I (flip c r) i q c :=
  Finset.sum_congr rfl fun k _ => by rw [xr_at, we_at]

/-- Group A's planes. -/
def termsA (c : Dev nD) : Fin 8 → (St 1 768).Idx → EReal := ![pA0 I c, pA1 I c, pA2 I c, pA3 I c, pA4 I c, pA5 I c, pA6 I c, pA7 I c]
/-- Group B's planes. -/
def termsB (c : Dev nD) : Fin 8 → (St 1 640).Idx → EReal := ![pB0 I c, pB1 I c, pB2 I c, pB3 I c, pB4 I c, pB5 I c, pB6 I c, pB7 I c]
/-- Group C's planes. -/
def termsC (c : Dev nD) : Fin 8 → (St 1 640).Idx → EReal := ![pC0 I c, pC1 I c, pC2 I c, pC3 I c, pC4 I c, pC5 I c, pC6 I c, pC7 I c]
/-- The bits flipped to name the block that each plane of group A is for. -/
def reA : Fin 8 → Fin 8 := ![0, 4, 3, 7, 1, 5, 2, 6]
/-- The same of group B. -/
def reB : Fin 8 → Fin 8 := ![0, 1, 4, 5, 3, 2, 7, 6]
/-- The same of group C. -/
def reC : Fin 8 → Fin 8 := ![0, 3, 1, 2, 4, 7, 5, 6]

/-- Each plane of group A is one product. -/
theorem termsA_eq (c : Dev nD) (p : Fin 8) : termsA I c p = k0_pay3 (we I c) (xr I c (reA p)) := by fin_cases p <;> rfl
/-- Each plane of group B is one product. -/
theorem termsB_eq (c : Dev nD) (p : Fin 8) : termsB I c p = k0_pay6 (we I c) (xr I c (reB p)) := by fin_cases p <;> rfl
/-- Each plane of group C is one product. -/
theorem termsC_eq (c : Dev nD) (p : Fin 8) : termsC I c p = k0_pay10 (we I c) (xr I c (reC p)) := by fin_cases p <;> rfl

/-- A plane of group A is the device's part of the product for the plane's block. -/
theorem termsA_at (c : Dev nD) (p : Fin 8) (i : Fin 512) (j : Fin 768) :
    termsA I c p (ix3 0 i j) = prt I (flip c (reA p)) i (col 0 (by decide) j) c := by
  rw [termsA_eq]; exact (prodA _ _ i j).trans (prt_eq I c _ i _)
/-- A plane of group B is the device's part of the product for the plane's block. -/
theorem termsB_at (c : Dev nD) (p : Fin 8) (i : Fin 512) (j : Fin 640) :
    termsB I c p (ix3 0 i j) = prt I (flip c (reB p)) i (col 768 (by decide) j) c := by
  rw [termsB_eq]; exact (prodB _ _ i j).trans (prt_eq I c _ i _)
/-- A plane of group C is the device's part of the product for the plane's block. -/
theorem termsC_at (c : Dev nD) (p : Fin 8) (i : Fin 512) (j : Fin 640) :
    termsC I c p (ix3 0 i j) = prt I (flip c (reC p)) i (col 1408 (by decide) j) c := by
  rw [termsC_eq]; exact (prodC _ _ i j).trans (prt_eq I c _ i _)

/-! ## Each group's result -/

/-- Plane 0 of group A with everything added: the sum of all devices' parts. -/
theorem sumA (c : Dev nD) (i : Fin 512) (j : Fin 768) :
    (zeroA I c (ix3 0 i j) + oneA I (peer 2 c) (ix3 0 i j) : EReal) = ∑ d, prt I c i (col 0 (by decide) j) d :=
  rounds (termsA I) (midA I) (loA I) (oneA I) (zeroA I) 0 1 2 (by decide) (by decide) (by decide) reA
    (fun e d => prt I e i (col 0 (by decide) j) d) i j
    inb_S4x512x768_S2x512x768_2_0_0 inb_S4x512x768_S2x512x768_0_0_0 inb_S2x512x768_S1x512x768_1_0_0 inb_S2x512x768_S1x512x768_0_0_0
    (fun d p => addA2 _ _ p i j) (fun d p => addA2 _ _ p i j) (fun d => addA1 _ _ i j) (fun d => addA1 _ _ i j)
    (fun d p => termsA_at I d p i j) (by decide) c
/-- Plane 0 of group B with everything added: the sum of all devices' parts. -/
theorem sumB (c : Dev nD) (i : Fin 512) (j : Fin 640) :
    (zeroB I c (ix3 0 i j) + oneB I (peer 5 c) (ix3 0 i j) : EReal) = ∑ d, prt I c i (col 768 (by decide) j) d :=
  rounds (termsB I) (midB I) (loB I) (oneB I) (zeroB I) 1 2 0 (by decide) (by decide) (by decide) reB
    (fun e d => prt I e i (col 768 (by decide) j) d) i j
    inb_S4x512x640_S2x512x640_2_0_0 inb_S4x512x640_S2x512x640_0_0_0 inb_S2x512x640_S1x512x640_1_0_0 inb_S2x512x640_S1x512x640_0_0_0
    (fun d p => addB2 _ _ p i j) (fun d p => addB2 _ _ p i j) (fun d => addB1 _ _ i j) (fun d => addB1 _ _ i j)
    (fun d p => termsB_at I d p i j) (by decide) c
/-- Plane 0 of group C with everything added: the sum of all devices' parts. -/
theorem sumC (c : Dev nD) (i : Fin 512) (j : Fin 640) :
    (zeroC I c (ix3 0 i j) + oneC I (peer 8 c) (ix3 0 i j) : EReal) = ∑ d, prt I c i (col 1408 (by decide) j) d :=
  rounds (termsC I) (midC I) (loC I) (oneC I) (zeroC I) 2 0 1 (by decide) (by decide) (by decide) reC
    (fun e d => prt I e i (col 1408 (by decide) j) d) i j
    inb_S4x512x640_S2x512x640_2_0_0 inb_S4x512x640_S2x512x640_0_0_0 inb_S2x512x640_S1x512x640_1_0_0 inb_S2x512x640_S1x512x640_0_0_0
    (fun d p => addB2 _ _ p i j) (fun d p => addB2 _ _ p i j) (fun d => addB1 _ _ i j) (fun d => addB1 _ _ i j)
    (fun d p => termsC_at I d p i j) (by decide) c

/-- Dropping the axis of one plane keeps row and column. -/
theorem squeeze_ix {W : ℕ} (h : (⟨2, ![512, W]⟩ : Shape).numel = (St 1 W).numel) (i : Fin 512) (j : Fin W) :
    Shape.reshapeEquiv h (ix2 i j) = ix3 0 i j :=
  Shape.reshapeEquiv_eq_of_rowMajor h (by
    rw [Shape.rowMajor_val_three, Shape.rowMajor_val_two]
    show (0 * 512 + i.val) * W + j.val = i.val * W + j.val
    rw [Nat.zero_mul, Nat.zero_add])

/-- The product of the scales. -/
theorem scl_at (c : Dev nD) : scl I c = (I.a c (ix1 0) * I.b c (ix1 0) : EReal) := by
  have e : r11.point numel1_S1 = (ix1 0 : S1.Idx) := by
    funext a; match a with | ⟨0, _⟩ => exact Subsingleton.elim (α := Fin 1) _ _
  unfold scl
  rw [e]
  pointwise [k0_pay53]

/-- Group A's columns of the result. -/
theorem outA_at (c : Dev nD) (i : Fin 512) (j : Fin 768) :
    outA I c (ix2 i j) = ((∑ d, prt I c i (col 0 (by decide) j) d) * scl I c : EReal) := by
  rw [← sumA]
  refine (lastA _ _ _ i j).trans ?_
  rw [rd_whole]; unfold sqA; rw [squeeze_ix]
/-- Group B's columns of the result. -/
theorem outB_at (c : Dev nD) (i : Fin 512) (j : Fin 640) :
    outB I c (ix2 i j) = ((∑ d, prt I c i (col 768 (by decide) j) d) * scl I c : EReal) := by
  rw [← sumB]
  refine (lastB _ _ _ i j).trans ?_
  rw [rd_whole]; unfold sqB; rw [squeeze_ix]
/-- Group C's columns of the result. -/
theorem outC_at (c : Dev nD) (i : Fin 512) (j : Fin 640) :
    outC I c (ix2 i j) = ((∑ d, prt I c i (col 1408 (by decide) j) d) * scl I c : EReal) := by
  rw [← sumC]
  refine (lastB _ _ _ i j).trans ?_
  rw [rd_whole]; unfold sqC; rw [squeeze_ix]

/-- A device's result: the sum of all devices' products for its block of rows, times the product of the scales. -/
theorem outv_at (c : Dev nD) (i : Fin 512) (q : Fin 2048) :
    outv I c (ix2 i q) = ((∑ d, prt I c i q d) * (I.a c (ix1 0) * I.b c (ix1 0)) : EReal) := by
  have rc : ∀ {W : ℕ} (j : Fin W), rowcol (ix2 i q) j = ix2 i j := fun j => by
    funext a; match a with | ⟨0, _⟩ => rfl | ⟨1, _⟩ => rfl
  have cl : ∀ {W o : ℕ} (h : o + W ≤ 2048) (j : Fin W), o + j.val = q.val → col o h j = q := fun h j e => Fin.ext e
  unfold outv
  rw [← scl_at]
  have hq := q.isLt
  by_cases h : q.val < 768
  · rw [dif_pos (show ((ix2 i q : S512x2048.Idx) 1).val < 768 from h), rc]
    refine (outA_at I c i ⟨q.val, h⟩).trans ?_
    rw [cl _ ⟨q.val, h⟩ (Nat.zero_add _)]
  · rw [dif_neg (show ¬ ((ix2 i q : S512x2048.Idx) 1).val < 768 from h)]
    by_cases h' : q.val < 1408
    · rw [dif_pos (show ((ix2 i q : S512x2048.Idx) 1).val < 1408 from h'), rc, outB_at, cl _ _ (show 768 + (q.val - 768) = q.val by omega)]
    · rw [dif_neg (show ¬ ((ix2 i q : S512x2048.Idx) 1).val < 1408 from h'), rc, outC_at, cl _ _ (show 1408 + (q.val - 1408) = q.val by omega)]

end Cert.KernelIdealProof

end
-- ==== Proof.KernelValue.lean ====
/-
The kernel's run with its result named: each device's result array ends holding, at every row of its block and every
column, the sum over all devices of their products for that row, times the product of the two scales.
-/
module

public import proofs.«01_k».proof.Proof.Run
public import proofs.«01_k».proof.Proof.Value
public import Idealize.ShloMosaic.Lib.Pipeline.ValueKit

@[expose] public section

noncomputable section

namespace Cert.KernelIdealProof

open Cert.KernelIdeal Cert.KernelIdeal.Gen Cert.Own
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! The one block of each argument's window is the whole argument. -/
/-- The block of `x` is the whole of it. -/
theorem x_eq (c : Dev nD) : (inp m).x c = m ((c : Thread nD τ).loc main_arg0) :=
  funext fun j => congrArg (m ((c : Thread nD τ).loc main_arg0)) (funext fun a => Fin.ext
    ((cfg0.win 0).rect_emb_val_of_index_zero t0_0 a ((by decide +kernel : ∀ a, (cfg0.win 0).index t0_0 a = 0) a) j))
/-- The block of `w` is the whole of it. -/
theorem w_eq (c : Dev nD) : (inp m).w c = m ((c : Thread nD τ).loc main_arg1) :=
  funext fun j => congrArg (m ((c : Thread nD τ).loc main_arg1)) (funext fun a => Fin.ext
    ((cfg0.win 1).rect_emb_val_of_index_zero t0_0 a ((by decide +kernel : ∀ a, (cfg0.win 1).index t0_0 a = 0) a) j))
/-- The block of the first scale is the whole of it. -/
theorem a_eq (c : Dev nD) : (inp m).a c = m ((c : Thread nD τ).loc main_arg2) :=
  funext fun j => congrArg (m ((c : Thread nD τ).loc main_arg2)) (funext fun a => Fin.ext
    ((cfg0.win 2).rect_emb_val_of_index_zero t0_0 a ((by decide +kernel : ∀ a, (cfg0.win 2).index t0_0 a = 0) a) j))
/-- The block of the second scale is the whole of it. -/
theorem b_eq (c : Dev nD) : (inp m).b c = m ((c : Thread nD τ).loc main_arg3) :=
  funext fun j => congrArg (m ((c : Thread nD τ).loc main_arg3)) (funext fun a => Fin.ext
    ((cfg0.win 3).rect_emb_val_of_index_zero t0_0 a ((by decide +kernel : ∀ a, (cfg0.win 3).index t0_0 a = 0) a) j))

/-- The result array at the end is what the body left. -/
theorem finalA_out (c : Dev nD) : finalA m ρ c 4 = outv (inp m) c :=
  (dats m ρ 0 c).arrAt_eq_of_after_last 4 t0_0 (by decide +kernel) (outv (inp m) c) (fun _ => rfl)

/-- The run with every array named. -/
theorem run_value : θ_run defs (onTc (τ := τ) (main (F := F))) ⟨m, fun _ => 0, ρ⟩
    (fun r => ∀ c : Dev nD,
      r.2.mem ((c.tc : Thread nD τ).loc main_v1) = outv (inp m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ ⟨h, _⟩ c => ⟨(h c 4).trans (finalA_out m ρ c), (h c 0).trans (finalA_in m ρ c 0 rfl),
    (h c 1).trans (finalA_in m ρ c 1 rfl), (h c 2).trans (finalA_in m ρ c 2 rfl), (h c 3).trans (finalA_in m ρ c 3 rfl)⟩) (run_main m ρ)

end Cert.KernelIdealProof

end
-- ==== Proof.RefValue.lean ====
/-
The reference's run with its result named: the product of the whole `x` and `w`, times the product of the two scales.
-/
module

public import proofs.«01_k».proof.Proof.Gen.ReferenceIdeal.Value
public import Idealize.ShloMosaic.Lib.Pipeline.ValueKit
public import Idealize.ShloMosaic.Lib.Pointwise
public import Idealize.ShloMosaic.Lib.IdealHost

@[expose] public section

set_option maxRecDepth 16384

noncomputable section

namespace Cert.RefValue

open Cert.ReferenceIdeal Cert.ReferenceIdeal.Gen Cert.ReferenceIdeal.Value
open Idealize.ShloMosaic Idealize.ShloMosaic.TcCoe Idealize.SL.Sem
open Idealize.ShloMosaic.Pipeline (Dat)

/-- The product of the whole arrays, scaled. -/
def whole (x : S4096x4096.Idx → EReal) (w : S4096x2048.Idx → EReal) (a b : S1.Idx → EReal) : S4096x2048.Idx → EReal :=
  fun i => (∑ k : Fin 4096, x (ix2 (i 0) k) * w (ix2 k (i 1))) * (a (ix1 0) * b (ix1 0))

/-- The value stored, entry by entry. -/
theorem pay_at (x : Vec Ideal S4096x4096 .fp8e4m3) (w : Vec Ideal S4096x2048 .fp8e5m2) (a b : S1.Idx → EReal) :
    k0_pay1 (F := Ideal) x w (a (ix1 0)) (b (ix1 0)) = whole x w a b := by
  funext i
  rw [← ix2_eta i]
  unfold whole
  pointwise [k0_pay1]

/-- The whole array starts at offset zero. -/
theorem off0 : (![0, 0] : Fin 2 → ℕ) = fun _ => 0 := by funext a; match a with | ⟨0, _⟩ => rfl | ⟨1, _⟩ => rfl

/-- An array of one element has one index. -/
theorem pt0 (i : S1.Idx) : i = ix1 0 := by funext a; match a with | ⟨0, _⟩ => exact Subsingleton.elim (α := Fin 1) _ _

/-- What the body leaves in the result's buffer, from what the arguments' buffers hold. -/
theorem body_value (c : Dev nD) (arg0 : Memref sig .tc .vmem S4096x4096 .fp8e4m3) (h0 : arg0.IsWhole)
    (arg1 : Memref sig .tc .vmem S4096x2048 .fp8e5m2) (h1 : arg1.IsWhole) (arg2 : Memref sig .tc .smem S1 .f32) (h2 : arg2.IsWhole)
    (arg3 : Memref sig .tc .smem S1 .f32) (h3 : arg3.IsWhole) (arg4 : Memref sig .tc .vmem S4096x2048 .f32) (h4 : arg4.IsWhole)
    (x : Vec Ideal S4096x4096 .fp8e4m3) (w : Vec Ideal S4096x2048 .fp8e5m2) (a b : Vec Ideal S1 .f32) :
    out0_A_4 c arg0 h0 arg1 h1 arg2 h2 arg3 h3 arg4 h4 x w a b = whole x w a b := by
  rw [← pay_at]
  unfold out0_A_4
  rw [View.read_writes_junk_eq_canon]
  refine (View.canon_unit_zero off0 inb_S4096x2048_S4096x2048_0_0 _).trans ?_
  rw [View.readAt_eq_ld, View.readAt_eq_ld, h0.read_unread, h1.read_unread, View.ld_unit_zero off0, View.ld_unit_zero off0]
  refine congrArg₂ (k0_pay1 x w) ?_ ?_
  · show View.readAt (Elt Ideal) arg2.view (Rect.unit (s := S1) ![0] S1.size inb_S1_S1_0).toLoadRect (h2.unread a) _ = _
    rw [View.readAt_eq_ld, h2.read_unread]; exact congrArg a (pt0 _)
  · show View.readAt (Elt Ideal) arg3.view (Rect.unit (s := S1) ![0] S1.size inb_S1_S1_0).toLoadRect (h3.unread b) _ = _
    rw [View.readAt_eq_ld, h3.read_unread]; exact congrArg b (pt0 _)

variable (m : (ℓ : Loc nD τ sig) → Buf (Elt Ideal) ℓ) (ρ : Dev nD → PrngReg)

/-! The one block of each argument's window is the whole argument. -/
/-- The block of `x` is the whole of it. -/
theorem x_eq (c : Dev nD) : iblk m c 0 t0_0 = m ((c : Thread nD τ).loc main_arg0) :=
  funext fun j => congrArg (m ((c : Thread nD τ).loc main_arg0)) (funext fun a => Fin.ext
    ((cfg0.win 0).rect_emb_val_of_index_zero t0_0 a ((by decide +kernel : ∀ a, (cfg0.win 0).index t0_0 a = 0) a) j))
/-- The block of `w` is the whole of it. -/
theorem w_eq (c : Dev nD) : iblk m c 1 t0_0 = m ((c : Thread nD τ).loc main_arg1) :=
  funext fun j => congrArg (m ((c : Thread nD τ).loc main_arg1)) (funext fun a => Fin.ext
    ((cfg0.win 1).rect_emb_val_of_index_zero t0_0 a ((by decide +kernel : ∀ a, (cfg0.win 1).index t0_0 a = 0) a) j))
/-- The block of the first scale is the whole of it. -/
theorem a_eq (c : Dev nD) : iblk m c 2 t0_0 = m ((c : Thread nD τ).loc main_arg2) :=
  funext fun j => congrArg (m ((c : Thread nD τ).loc main_arg2)) (funext fun a => Fin.ext
    ((cfg0.win 2).rect_emb_val_of_index_zero t0_0 a ((by decide +kernel : ∀ a, (cfg0.win 2).index t0_0 a = 0) a) j))
/-- The block of the second scale is the whole of it. -/
theorem b_eq (c : Dev nD) : iblk m c 3 t0_0 = m ((c : Thread nD τ).loc main_arg3) :=
  funext fun j => congrArg (m ((c : Thread nD τ).loc main_arg3)) (funext fun a => Fin.ext
    ((cfg0.win 3).rect_emb_val_of_index_zero t0_0 a ((by decide +kernel : ∀ a, (cfg0.win 3).index t0_0 a = 0) a) j))

/-- The result as a function of the arguments in memory. -/
def result (c : Dev nD) : S4096x2048.Idx → EReal :=
  whole (m ((c : Thread nD τ).loc main_arg0)) (m ((c : Thread nD τ).loc main_arg1)) (m ((c : Thread nD τ).loc main_arg2))
    (m ((c : Thread nD τ).loc main_arg3))

/-- The body leaves the result in its buffer. -/
theorem after_eq (c : Dev nD) : (dats m 0 c).after 4 t0_0 = result m c := by
  rw [after0_4]
  unfold outsAt0
  rw [body_value, x_eq, w_eq, a_eq, b_eq]
  rfl

/-- The result array at the end. -/
theorem final (c : Dev nD) : (dats m 0 c).arrAt 4 cfg0.N = result m c :=
  (dats m 0 c).arrAt_eq_of_after_last 4 t0_0 (by decide +kernel) (result m c) (fun j => congrFun (after_eq m c) j)

/-- The run with every array named. -/
theorem run_value : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.RefValue

end
-- ==== Proof.Meet.lean ====
/-
The kernel's result and the reference's are the same: summing over 4096 indices is summing over the devices what each
sums over its own 512.
-/
module

public import proofs.«01_k».proof.Defs
public import proofs.«01_k».proof.Proof.KernelValue
public import proofs.«01_k».proof.Proof.RefValue

@[expose] public section

noncomputable section

namespace Cert.Meet

open Idealize.ShloMosaic Idealize.SL.Sem
open Cert.KernelIdealProof (prt rowOf Inp outv outv_at)

/-- A sum over 4096 indices, run by run of 512. -/
theorem sum_runs (f : Fin 4096 → EReal) : ∑ k, f k = ∑ d : Fin 8, ∑ k : Fin 512, f (rowOf d k) := by
  rw [← Equiv.sum_comp (finProdFinEquiv (m := 8) (n := 512)) f, Fintype.sum_prod_type]
  refine Finset.sum_congr rfl fun d _ => Finset.sum_congr rfl fun k _ => congrArg f (Fin.ext ?_)
  show k.val + 512 * d.val = d.val * 512 + k.val
  omega

/-- If every device holds its run of columns of `x`, its run of rows of `w` and the scales, its result is its block of
rows of the whole product. -/
theorem out_eq (I : Inp Ideal) (x : (⟨2, ![4096, 4096]⟩ : Shape).Idx → EReal) (w : (⟨2, ![4096, 2048]⟩ : Shape).Idx → EReal)
    (a b : (⟨1, ![1]⟩ : Shape).Idx → EReal)
    (hx : ∀ c, I.x c = Layout.block ⟨2, ![4096, 512]⟩ ⟨2, ![4096, 4096]⟩ 1 8 c x)
    (hw : ∀ c, I.w c = Layout.block ⟨2, ![512, 2048]⟩ ⟨2, ![4096, 2048]⟩ 0 8 c w)
    (ha : ∀ c, I.a c = a) (hb : ∀ c, I.b c = b) (c : Fin 8) :
    outv I c = Layout.block ⟨2, ![512, 2048]⟩ ⟨2, ![4096, 2048]⟩ 0 8 c (Cert.RefValue.whole x w a b) := by
  funext i
  obtain ⟨r, q, rfl⟩ : ∃ (r : Fin 512) (q : Fin 2048), i = ix2 r q := ⟨i 0, i 1, (ix2_eta i).symm⟩
  have hX : ∀ d (r : Fin 4096) (k : Fin 512), I.x d (ix2 r k) = x (ix2 r (rowOf d k)) := fun d r k => by
    rw [hx]; refine congrArg x (funext fun e => Fin.ext ?_)
    match e with | ⟨0, _⟩ => rfl | ⟨1, _⟩ => rfl
  have hW : ∀ d (k : Fin 512) (q : Fin 2048), I.w d (ix2 k q) = w (ix2 (rowOf d k) q) := fun d k q => by
    rw [hw]; refine congrArg w (funext fun e => Fin.ext ?_)
    match e with | ⟨0, _⟩ => rfl | ⟨1, _⟩ => rfl
  have hi : ∀ h : Layout.Tiles ⟨2, ![512, 2048]⟩ ⟨2, ![4096, 2048]⟩ 0 8, h.idx c (ix2 r q) = ix2 (rowOf c r) q := fun h => by
    funext e; apply Fin.ext
    match e with | ⟨0, _⟩ => rfl | ⟨1, _⟩ => rfl
  rw [outv_at, ha, hb, Layout.block_apply, hi]
  show _ = (∑ k : Fin 4096, x (ix2 (rowOf c r) k) * w (ix2 k q)) * (a (ix1 0) * b (ix1 0))
  rw [sum_runs]
  refine congrArg (· * (a (ix1 0) * b (ix1 0))) (Finset.sum_congr rfl fun d _ => ?_)
  exact Finset.sum_congr rfl fun k _ => by rw [hX, hW]

/-- The claim about the values: both run, and every device's result is its block of the reference's. -/
theorem values : Cert.algebraic_KernelIdeal_ReferenceIdeal (hKernelIdeal := Cert.KernelIdeal.Gen.facts)
    (hReferenceIdeal := Cert.ReferenceIdeal.Gen.facts) := by
  intro m g m' g' _ hm
  refine ⟨Cert.RefValue.result m' 0, ?_, ?_⟩
  · refine (θ_run _ _ _).mono (fun r h c => ⟨(h c).1.trans ?_, (h c).2⟩) (Cert.KernelIdealProof.run_value (F := Ideal) m g)
    exact out_eq (Cert.KernelIdealProof.inp m) _ _ _ _
      (fun d => (Cert.KernelIdealProof.x_eq m d).trans (hm d).1)
      (fun d => (Cert.KernelIdealProof.w_eq m d).trans (hm d).2.1)
      (fun d => (Cert.KernelIdealProof.a_eq m d).trans (hm d).2.2.1)
      (fun d => (Cert.KernelIdealProof.b_eq m d).trans (hm d).2.2.2) c
  · exact (θ_run _ _ _).mono (fun r h => h 0) (Cert.RefValue.run_value m' g')

end Cert.Meet

end
-- ==== Proof.lean ====
/-
The claims about the kernel and its reference, put together from the modules under Proof/.
-/
module

public import proofs.«01_k».proof.Defs
public import proofs.«01_k».proof.Proof.Same
public import proofs.«01_k».proof.Proof.Gen.ReferenceIdeal
public import proofs.«01_k».proof.Proof.Gen.ReferenceIdeal.Frame
public import proofs.«01_k».proof.Proof.Meet

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    fun m g _ => Cert.Same.run_frame (F := Bits) m g,
    fun m g _ => Cert.KernelIdealProof.run_frame (F := Ideal) m g,
    fun m g _ => Cert.ReferenceIdeal.Gen.frame m g,
    trivial,
    Cert.Meet.values⟩

end Cert.Proof

end
